-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2048 : Shape := ⟨2, ![4096, 2048]⟩
abbrev S128x2048 : Shape := ⟨2, ![128, 2048]⟩
abbrev S2x512x2048 : Shape := ⟨3, ![2, 512, 2048]⟩
abbrev S128x4096 : Shape := ⟨2, ![128, 4096]⟩
abbrev S8x128 : Shape := ⟨2, ![8, 128]⟩
abbrev S32x8x128 : Shape := ⟨3, ![32, 8, 128]⟩
abbrev S31 : Shape := ⟨1, ![31]⟩
abbrev S2 : Shape := ⟨1, ![2]⟩
abbrev S_ : Shape := ⟨0, ![]⟩
abbrev S128x128 : Shape := ⟨2, ![128, 128]⟩
abbrev S1 : Shape := ⟨1, ![1]⟩
abbrev S1x512x2048 : Shape := ⟨3, ![1, 512, 2048]⟩
abbrev S512x2048 : Shape := ⟨2, ![512, 2048]⟩
abbrev S1x128x2048 : Shape := ⟨3, ![1, 128, 2048]⟩
abbrev S1x1x1 : Shape := ⟨3, ![1, 1, 1]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 3
  | .vmem => 9
  | .smem => 0
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S4096x128, .bf16⟩
  | .local _ .vmem, ⟨3, _⟩ => ⟨S2x512x2048, .f32⟩
  | .local _ .vmem, ⟨4, _⟩ => ⟨S4096x2048, .bf16⟩
  | .local _ .vmem, ⟨5, _⟩ => ⟨S128x4096, .bf16⟩
  | .local _ .vmem, ⟨6, _⟩ => ⟨S128x2048, .f32⟩
  | .local _ .vmem, ⟨7, _⟩ => ⟨S8x128, .f32⟩
  | .local _ .vmem, ⟨8, _⟩ => ⟨S32x8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  (ofTc nBuf bufTy 1 128 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v134 : BitVec 32 := Scalar.muli v2 c128_i32
  let v135 : Index := Scalar.indexCast v134
  let c0_128 : Index := 0#32
  ![v135.toNat, 0]
def k0_off2 (d0 : Dev nD) : Fin 2 → Nat :=
  let c0_130 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_129 : BitVec 32 := 128#32
  let v137 : BitVec 32 := Scalar.muli v2 c128_i32_129
  let v138 : Index := Scalar.indexCast v137
  ![0, v138.toNat]
def k0_off3 (d0 : Dev nD) : Fin 2 → Nat :=
  let c0_i32_139 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_134 : BitVec 32 := 128#32
  let v145 : BitVec 32 := Scalar.muli v2 c128_i32_134
  ![0, v145.toNat]
def k0_off4 (d0 : Dev nD) (c1_i32_131 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v142 : BitVec 32 := Scalar.addi v2 c1_i32_131
  let c32_i32_132 : BitVec 32 := 32#32
  let v143 : BitVec 32 := Scalar.remsi v142 c32_i32_132
  let c128_i32_133 : BitVec 32 := 128#32
  let v144 : BitVec 32 := Scalar.muli v143 c128_i32_133
  let c0_i32_140 : BitVec 32 := 0#32
  ![v144.toNat, 0]
def k0_dev32 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_131 : BitVec 32 := 1#32
  let v142 : BitVec 32 := Scalar.addi v2 c1_i32_131
  let c32_i32_132 : BitVec 32 := 32#32
  let v143 : BitVec 32 := Scalar.remsi v142 c32_i32_132
  let c1_i32_137 : BitVec 32 := 1#32
  let v146 : BitVec 32 := Scalar.muli v143 c1_i32_137
  let v147 : BitVec 32 := Scalar.addi c0_i32_138 v146
  v147.toNat
def k0_dev33 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_141 : BitVec 32 := 2#32
  let v154 : BitVec 32 := Scalar.addi v2 c2_i32_141
  let c32_i32_142 : BitVec 32 := 32#32
  let v155 : BitVec 32 := Scalar.remsi v154 c32_i32_142
  let c1_i32_147 : BitVec 32 := 1#32
  let v158 : BitVec 32 := Scalar.muli v155 c1_i32_147
  let v159 : BitVec 32 := Scalar.addi c0_i32_148 v158
  v159.toNat
def k0_dev34 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_151 : BitVec 32 := 3#32
  let v166 : BitVec 32 := Scalar.addi v2 c3_i32_151
  let c32_i32_152 : BitVec 32 := 32#32
  let v167 : BitVec 32 := Scalar.remsi v166 c32_i32_152
  let c1_i32_157 : BitVec 32 := 1#32
  let v170 : BitVec 32 := Scalar.muli v167 c1_i32_157
  let v171 : BitVec 32 := Scalar.addi c0_i32_158 v170
  v171.toNat
def k0_dev35 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_161 : BitVec 32 := 4#32
  let v178 : BitVec 32 := Scalar.addi v2 c4_i32_161
  let c32_i32_162 : BitVec 32 := 32#32
  let v179 : BitVec 32 := Scalar.remsi v178 c32_i32_162
  let c1_i32_167 : BitVec 32 := 1#32
  let v182 : BitVec 32 := Scalar.muli v179 c1_i32_167
  let v183 : BitVec 32 := Scalar.addi c0_i32_168 v182
  v183.toNat
def k0_dev36 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_171 : BitVec 32 := 5#32
  let v190 : BitVec 32 := Scalar.addi v2 c5_i32_171
  let c32_i32_172 : BitVec 32 := 32#32
  let v191 : BitVec 32 := Scalar.remsi v190 c32_i32_172
  let c1_i32_177 : BitVec 32 := 1#32
  let v194 : BitVec 32 := Scalar.muli v191 c1_i32_177
  let v195 : BitVec 32 := Scalar.addi c0_i32_178 v194
  v195.toNat
def k0_dev37 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_181 : BitVec 32 := 6#32
  let v202 : BitVec 32 := Scalar.addi v2 c6_i32_181
  let c32_i32_182 : BitVec 32 := 32#32
  let v203 : BitVec 32 := Scalar.remsi v202 c32_i32_182
  let c1_i32_187 : BitVec 32 := 1#32
  let v206 : BitVec 32 := Scalar.muli v203 c1_i32_187
  let v207 : BitVec 32 := Scalar.addi c0_i32_188 v206
  v207.toNat
def k0_dev38 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_191 : BitVec 32 := 7#32
  let v214 : BitVec 32 := Scalar.addi v2 c7_i32_191
  let c32_i32_192 : BitVec 32 := 32#32
  let v215 : BitVec 32 := Scalar.remsi v214 c32_i32_192
  let c1_i32_197 : BitVec 32 := 1#32
  let v218 : BitVec 32 := Scalar.muli v215 c1_i32_197
  let v219 : BitVec 32 := Scalar.addi c0_i32_198 v218
  v219.toNat
def k0_dev39 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_201 : BitVec 32 := 8#32
  let v226 : BitVec 32 := Scalar.addi v2 c8_i32_201
  let c32_i32_202 : BitVec 32 := 32#32
  let v227 : BitVec 32 := Scalar.remsi v226 c32_i32_202
  let c1_i32_207 : BitVec 32 := 1#32
  let v230 : BitVec 32 := Scalar.muli v227 c1_i32_207
  let v231 : BitVec 32 := Scalar.addi c0_i32_208 v230
  v231.toNat
def k0_dev40 (d0 : Dev nD) : Nat :=
  let c0_i32_218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_211 : BitVec 32 := 9#32
  let v238 : BitVec 32 := Scalar.addi v2 c9_i32_211
  let c32_i32_212 : BitVec 32 := 32#32
  let v239 : BitVec 32 := Scalar.remsi v238 c32_i32_212
  let c1_i32_217 : BitVec 32 := 1#32
  let v242 : BitVec 32 := Scalar.muli v239 c1_i32_217
  let v243 : BitVec 32 := Scalar.addi c0_i32_218 v242
  v243.toNat
def k0_dev41 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_221 : BitVec 32 := 10#32
  let v250 : BitVec 32 := Scalar.addi v2 c10_i32_221
  let c32_i32_222 : BitVec 32 := 32#32
  let v251 : BitVec 32 := Scalar.remsi v250 c32_i32_222
  let c1_i32_227 : BitVec 32 := 1#32
  let v254 : BitVec 32 := Scalar.muli v251 c1_i32_227
  let v255 : BitVec 32 := Scalar.addi c0_i32_228 v254
  v255.toNat
def k0_dev42 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_231 : BitVec 32 := 11#32
  let v262 : BitVec 32 := Scalar.addi v2 c11_i32_231
  let c32_i32_232 : BitVec 32 := 32#32
  let v263 : BitVec 32 := Scalar.remsi v262 c32_i32_232
  let c1_i32_237 : BitVec 32 := 1#32
  let v266 : BitVec 32 := Scalar.muli v263 c1_i32_237
  let v267 : BitVec 32 := Scalar.addi c0_i32_238 v266
  v267.toNat
def k0_dev43 (d0 : Dev nD) : Nat :=
  let c0_i32_248 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_241 : BitVec 32 := 12#32
  let v274 : BitVec 32 := Scalar.addi v2 c12_i32_241
  let c32_i32_242 : BitVec 32 := 32#32
  let v275 : BitVec 32 := Scalar.remsi v274 c32_i32_242
  let c1_i32_247 : BitVec 32 := 1#32
  let v278 : BitVec 32 := Scalar.muli v275 c1_i32_247
  let v279 : BitVec 32 := Scalar.addi c0_i32_248 v278
  v279.toNat
def k0_dev44 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_251 : BitVec 32 := 13#32
  let v286 : BitVec 32 := Scalar.addi v2 c13_i32_251
  let c32_i32_252 : BitVec 32 := 32#32
  let v287 : BitVec 32 := Scalar.remsi v286 c32_i32_252
  let c1_i32_257 : BitVec 32 := 1#32
  let v290 : BitVec 32 := Scalar.muli v287 c1_i32_257
  let v291 : BitVec 32 := Scalar.addi c0_i32_258 v290
  v291.toNat
def k0_dev45 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_261 : BitVec 32 := 14#32
  let v298 : BitVec 32 := Scalar.addi v2 c14_i32_261
  let c32_i32_262 : BitVec 32 := 32#32
  let v299 : BitVec 32 := Scalar.remsi v298 c32_i32_262
  let c1_i32_267 : BitVec 32 := 1#32
  let v302 : BitVec 32 := Scalar.muli v299 c1_i32_267
  let v303 : BitVec 32 := Scalar.addi c0_i32_268 v302
  v303.toNat
def k0_dev46 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_271 : BitVec 32 := 15#32
  let v310 : BitVec 32 := Scalar.addi v2 c15_i32_271
  let c32_i32_272 : BitVec 32 := 32#32
  let v311 : BitVec 32 := Scalar.remsi v310 c32_i32_272
  let c1_i32_277 : BitVec 32 := 1#32
  let v314 : BitVec 32 := Scalar.muli v311 c1_i32_277
  let v315 : BitVec 32 := Scalar.addi c0_i32_278 v314
  v315.toNat
def k0_dev47 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_281 : BitVec 32 := 16#32
  let v322 : BitVec 32 := Scalar.addi v2 c16_i32_281
  let c32_i32_282 : BitVec 32 := 32#32
  let v323 : BitVec 32 := Scalar.remsi v322 c32_i32_282
  let c1_i32_287 : BitVec 32 := 1#32
  let v326 : BitVec 32 := Scalar.muli v323 c1_i32_287
  let v327 : BitVec 32 := Scalar.addi c0_i32_288 v326
  v327.toNat
def k0_dev48 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_291 : BitVec 32 := 17#32
  let v334 : BitVec 32 := Scalar.addi v2 c17_i32_291
  let c32_i32_292 : BitVec 32 := 32#32
  let v335 : BitVec 32 := Scalar.remsi v334 c32_i32_292
  let c1_i32_297 : BitVec 32 := 1#32
  let v338 : BitVec 32 := Scalar.muli v335 c1_i32_297
  let v339 : BitVec 32 := Scalar.addi c0_i32_298 v338
  v339.toNat
def k0_dev49 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_301 : BitVec 32 := 18#32
  let v346 : BitVec 32 := Scalar.addi v2 c18_i32_301
  let c32_i32_302 : BitVec 32 := 32#32
  let v347 : BitVec 32 := Scalar.remsi v346 c32_i32_302
  let c1_i32_307 : BitVec 32 := 1#32
  let v350 : BitVec 32 := Scalar.muli v347 c1_i32_307
  let v351 : BitVec 32 := Scalar.addi c0_i32_308 v350
  v351.toNat
def k0_dev50 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_311 : BitVec 32 := 19#32
  let v358 : BitVec 32 := Scalar.addi v2 c19_i32_311
  let c32_i32_312 : BitVec 32 := 32#32
  let v359 : BitVec 32 := Scalar.remsi v358 c32_i32_312
  let c1_i32_317 : BitVec 32 := 1#32
  let v362 : BitVec 32 := Scalar.muli v359 c1_i32_317
  let v363 : BitVec 32 := Scalar.addi c0_i32_318 v362
  v363.toNat
def k0_dev51 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_321 : BitVec 32 := 20#32
  let v370 : BitVec 32 := Scalar.addi v2 c20_i32_321
  let c32_i32_322 : BitVec 32 := 32#32
  let v371 : BitVec 32 := Scalar.remsi v370 c32_i32_322
  let c1_i32_327 : BitVec 32 := 1#32
  let v374 : BitVec 32 := Scalar.muli v371 c1_i32_327
  let v375 : BitVec 32 := Scalar.addi c0_i32_328 v374
  v375.toNat
def k0_dev52 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_331 : BitVec 32 := 21#32
  let v382 : BitVec 32 := Scalar.addi v2 c21_i32_331
  let c32_i32_332 : BitVec 32 := 32#32
  let v383 : BitVec 32 := Scalar.remsi v382 c32_i32_332
  let c1_i32_337 : BitVec 32 := 1#32
  let v386 : BitVec 32 := Scalar.muli v383 c1_i32_337
  let v387 : BitVec 32 := Scalar.addi c0_i32_338 v386
  v387.toNat
def k0_dev53 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_341 : BitVec 32 := 22#32
  let v394 : BitVec 32 := Scalar.addi v2 c22_i32_341
  let c32_i32_342 : BitVec 32 := 32#32
  let v395 : BitVec 32 := Scalar.remsi v394 c32_i32_342
  let c1_i32_347 : BitVec 32 := 1#32
  let v398 : BitVec 32 := Scalar.muli v395 c1_i32_347
  let v399 : BitVec 32 := Scalar.addi c0_i32_348 v398
  v399.toNat
def k0_dev54 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_351 : BitVec 32 := 23#32
  let v406 : BitVec 32 := Scalar.addi v2 c23_i32_351
  let c32_i32_352 : BitVec 32 := 32#32
  let v407 : BitVec 32 := Scalar.remsi v406 c32_i32_352
  let c1_i32_357 : BitVec 32 := 1#32
  let v410 : BitVec 32 := Scalar.muli v407 c1_i32_357
  let v411 : BitVec 32 := Scalar.addi c0_i32_358 v410
  v411.toNat
def k0_dev55 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_361 : BitVec 32 := 24#32
  let v418 : BitVec 32 := Scalar.addi v2 c24_i32_361
  let c32_i32_362 : BitVec 32 := 32#32
  let v419 : BitVec 32 := Scalar.remsi v418 c32_i32_362
  let c1_i32_367 : BitVec 32 := 1#32
  let v422 : BitVec 32 := Scalar.muli v419 c1_i32_367
  let v423 : BitVec 32 := Scalar.addi c0_i32_368 v422
  v423.toNat
def k0_dev56 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_371 : BitVec 32 := 25#32
  let v430 : BitVec 32 := Scalar.addi v2 c25_i32_371
  let c32_i32_372 : BitVec 32 := 32#32
  let v431 : BitVec 32 := Scalar.remsi v430 c32_i32_372
  let c1_i32_377 : BitVec 32 := 1#32
  let v434 : BitVec 32 := Scalar.muli v431 c1_i32_377
  let v435 : BitVec 32 := Scalar.addi c0_i32_378 v434
  v435.toNat
def k0_dev57 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_381 : BitVec 32 := 26#32
  let v442 : BitVec 32 := Scalar.addi v2 c26_i32_381
  let c32_i32_382 : BitVec 32 := 32#32
  let v443 : BitVec 32 := Scalar.remsi v442 c32_i32_382
  let c1_i32_387 : BitVec 32 := 1#32
  let v446 : BitVec 32 := Scalar.muli v443 c1_i32_387
  let v447 : BitVec 32 := Scalar.addi c0_i32_388 v446
  v447.toNat
def k0_dev58 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_391 : BitVec 32 := 27#32
  let v454 : BitVec 32 := Scalar.addi v2 c27_i32_391
  let c32_i32_392 : BitVec 32 := 32#32
  let v455 : BitVec 32 := Scalar.remsi v454 c32_i32_392
  let c1_i32_397 : BitVec 32 := 1#32
  let v458 : BitVec 32 := Scalar.muli v455 c1_i32_397
  let v459 : BitVec 32 := Scalar.addi c0_i32_398 v458
  v459.toNat
def k0_dev59 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_401 : BitVec 32 := 28#32
  let v466 : BitVec 32 := Scalar.addi v2 c28_i32_401
  let c32_i32_402 : BitVec 32 := 32#32
  let v467 : BitVec 32 := Scalar.remsi v466 c32_i32_402
  let c1_i32_407 : BitVec 32 := 1#32
  let v470 : BitVec 32 := Scalar.muli v467 c1_i32_407
  let v471 : BitVec 32 := Scalar.addi c0_i32_408 v470
  v471.toNat
def k0_dev60 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_411 : BitVec 32 := 29#32
  let v478 : BitVec 32 := Scalar.addi v2 c29_i32_411
  let c32_i32_412 : BitVec 32 := 32#32
  let v479 : BitVec 32 := Scalar.remsi v478 c32_i32_412
  let c1_i32_417 : BitVec 32 := 1#32
  let v482 : BitVec 32 := Scalar.muli v479 c1_i32_417
  let v483 : BitVec 32 := Scalar.addi c0_i32_418 v482
  v483.toNat
def k0_dev61 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_421 : BitVec 32 := 30#32
  let v490 : BitVec 32 := Scalar.addi v2 c30_i32_421
  let c32_i32_422 : BitVec 32 := 32#32
  let v491 : BitVec 32 := Scalar.remsi v490 c32_i32_422
  let c1_i32_427 : BitVec 32 := 1#32
  let v494 : BitVec 32 := Scalar.muli v491 c1_i32_427
  let v495 : BitVec 32 := Scalar.addi c0_i32_428 v494
  v495.toNat
def k0_dev62 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_431 : BitVec 32 := 31#32
  let v502 : BitVec 32 := Scalar.addi v2 c31_i32_431
  let c32_i32_432 : BitVec 32 := 32#32
  let v503 : BitVec 32 := Scalar.remsi v502 c32_i32_432
  let c1_i32_437 : BitVec 32 := 1#32
  let v506 : BitVec 32 := Scalar.muli v503 c1_i32_437
  let v507 : BitVec 32 := Scalar.addi c0_i32_438 v506
  v507.toNat
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v969 : Index := Scalar.indexCast v2
  let c0_914 : Index := 0#32
  let c0_915 : Index := 0#32
  ![v969.toNat, 0, 0]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_922 : BitVec 32 := 0#32
  let c0_i32_923 : BitVec 32 := 0#32
  ![v2.toNat, 0, 0]
def k0_dev63 (d0 : Dev nD) : Nat :=
  let c0_i32_921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_916 : BitVec 32 := 1#32
  let v973 : BitVec 32 := Scalar.addi v2 c1_i32_916
  let c32_i32_917 : BitVec 32 := 32#32
  let v974 : BitVec 32 := Scalar.remsi v973 c32_i32_917
  let c1_i32_920 : BitVec 32 := 1#32
  let v975 : BitVec 32 := Scalar.muli v974 c1_i32_920
  let v976 : BitVec 32 := Scalar.addi c0_i32_921 v975
  v976.toNat
def k0_dev64 (d0 : Dev nD) : Nat :=
  let c0_i32_929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_924 : BitVec 32 := 2#32
  let v983 : BitVec 32 := Scalar.addi v2 c2_i32_924
  let c32_i32_925 : BitVec 32 := 32#32
  let v984 : BitVec 32 := Scalar.remsi v983 c32_i32_925
  let c1_i32_928 : BitVec 32 := 1#32
  let v985 : BitVec 32 := Scalar.muli v984 c1_i32_928
  let v986 : BitVec 32 := Scalar.addi c0_i32_929 v985
  v986.toNat
def k0_dev65 (d0 : Dev nD) : Nat :=
  let c0_i32_937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_932 : BitVec 32 := 3#32
  let v993 : BitVec 32 := Scalar.addi v2 c3_i32_932
  let c32_i32_933 : BitVec 32 := 32#32
  let v994 : BitVec 32 := Scalar.remsi v993 c32_i32_933
  let c1_i32_936 : BitVec 32 := 1#32
  let v995 : BitVec 32 := Scalar.muli v994 c1_i32_936
  let v996 : BitVec 32 := Scalar.addi c0_i32_937 v995
  v996.toNat
def k0_dev66 (d0 : Dev nD) : Nat :=
  let c0_i32_945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_940 : BitVec 32 := 4#32
  let v1003 : BitVec 32 := Scalar.addi v2 c4_i32_940
  let c32_i32_941 : BitVec 32 := 32#32
  let v1004 : BitVec 32 := Scalar.remsi v1003 c32_i32_941
  let c1_i32_944 : BitVec 32 := 1#32
  let v1005 : BitVec 32 := Scalar.muli v1004 c1_i32_944
  let v1006 : BitVec 32 := Scalar.addi c0_i32_945 v1005
  v1006.toNat
def k0_dev67 (d0 : Dev nD) : Nat :=
  let c0_i32_953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_948 : BitVec 32 := 5#32
  let v1013 : BitVec 32 := Scalar.addi v2 c5_i32_948
  let c32_i32_949 : BitVec 32 := 32#32
  let v1014 : BitVec 32 := Scalar.remsi v1013 c32_i32_949
  let c1_i32_952 : BitVec 32 := 1#32
  let v1015 : BitVec 32 := Scalar.muli v1014 c1_i32_952
  let v1016 : BitVec 32 := Scalar.addi c0_i32_953 v1015
  v1016.toNat
def k0_dev68 (d0 : Dev nD) : Nat :=
  let c0_i32_961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_956 : BitVec 32 := 6#32
  let v1023 : BitVec 32 := Scalar.addi v2 c6_i32_956
  let c32_i32_957 : BitVec 32 := 32#32
  let v1024 : BitVec 32 := Scalar.remsi v1023 c32_i32_957
  let c1_i32_960 : BitVec 32 := 1#32
  let v1025 : BitVec 32 := Scalar.muli v1024 c1_i32_960
  let v1026 : BitVec 32 := Scalar.addi c0_i32_961 v1025
  v1026.toNat
def k0_dev69 (d0 : Dev nD) : Nat :=
  let c0_i32_969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_964 : BitVec 32 := 7#32
  let v1033 : BitVec 32 := Scalar.addi v2 c7_i32_964
  let c32_i32_965 : BitVec 32 := 32#32
  let v1034 : BitVec 32 := Scalar.remsi v1033 c32_i32_965
  let c1_i32_968 : BitVec 32 := 1#32
  let v1035 : BitVec 32 := Scalar.muli v1034 c1_i32_968
  let v1036 : BitVec 32 := Scalar.addi c0_i32_969 v1035
  v1036.toNat
def k0_dev70 (d0 : Dev nD) : Nat :=
  let c0_i32_977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_972 : BitVec 32 := 8#32
  let v1043 : BitVec 32 := Scalar.addi v2 c8_i32_972
  let c32_i32_973 : BitVec 32 := 32#32
  let v1044 : BitVec 32 := Scalar.remsi v1043 c32_i32_973
  let c1_i32_976 : BitVec 32 := 1#32
  let v1045 : BitVec 32 := Scalar.muli v1044 c1_i32_976
  let v1046 : BitVec 32 := Scalar.addi c0_i32_977 v1045
  v1046.toNat
def k0_dev71 (d0 : Dev nD) : Nat :=
  let c0_i32_985 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_980 : BitVec 32 := 9#32
  let v1053 : BitVec 32 := Scalar.addi v2 c9_i32_980
  let c32_i32_981 : BitVec 32 := 32#32
  let v1054 : BitVec 32 := Scalar.remsi v1053 c32_i32_981
  let c1_i32_984 : BitVec 32 := 1#32
  let v1055 : BitVec 32 := Scalar.muli v1054 c1_i32_984
  let v1056 : BitVec 32 := Scalar.addi c0_i32_985 v1055
  v1056.toNat
def k0_dev72 (d0 : Dev nD) : Nat :=
  let c0_i32_993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_988 : BitVec 32 := 10#32
  let v1063 : BitVec 32 := Scalar.addi v2 c10_i32_988
  let c32_i32_989 : BitVec 32 := 32#32
  let v1064 : BitVec 32 := Scalar.remsi v1063 c32_i32_989
  let c1_i32_992 : BitVec 32 := 1#32
  let v1065 : BitVec 32 := Scalar.muli v1064 c1_i32_992
  let v1066 : BitVec 32 := Scalar.addi c0_i32_993 v1065
  v1066.toNat
def k0_dev73 (d0 : Dev nD) : Nat :=
  let c0_i32_1001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_996 : BitVec 32 := 11#32
  let v1073 : BitVec 32 := Scalar.addi v2 c11_i32_996
  let c32_i32_997 : BitVec 32 := 32#32
  let v1074 : BitVec 32 := Scalar.remsi v1073 c32_i32_997
  let c1_i32_1000 : BitVec 32 := 1#32
  let v1075 : BitVec 32 := Scalar.muli v1074 c1_i32_1000
  let v1076 : BitVec 32 := Scalar.addi c0_i32_1001 v1075
  v1076.toNat
def k0_dev74 (d0 : Dev nD) : Nat :=
  let c0_i32_1009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1004 : BitVec 32 := 12#32
  let v1083 : BitVec 32 := Scalar.addi v2 c12_i32_1004
  let c32_i32_1005 : BitVec 32 := 32#32
  let v1084 : BitVec 32 := Scalar.remsi v1083 c32_i32_1005
  let c1_i32_1008 : BitVec 32 := 1#32
  let v1085 : BitVec 32 := Scalar.muli v1084 c1_i32_1008
  let v1086 : BitVec 32 := Scalar.addi c0_i32_1009 v1085
  v1086.toNat
def k0_dev75 (d0 : Dev nD) : Nat :=
  let c0_i32_1017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1012 : BitVec 32 := 13#32
  let v1093 : BitVec 32 := Scalar.addi v2 c13_i32_1012
  let c32_i32_1013 : BitVec 32 := 32#32
  let v1094 : BitVec 32 := Scalar.remsi v1093 c32_i32_1013
  let c1_i32_1016 : BitVec 32 := 1#32
  let v1095 : BitVec 32 := Scalar.muli v1094 c1_i32_1016
  let v1096 : BitVec 32 := Scalar.addi c0_i32_1017 v1095
  v1096.toNat
def k0_dev76 (d0 : Dev nD) : Nat :=
  let c0_i32_1025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1020 : BitVec 32 := 14#32
  let v1103 : BitVec 32 := Scalar.addi v2 c14_i32_1020
  let c32_i32_1021 : BitVec 32 := 32#32
  let v1104 : BitVec 32 := Scalar.remsi v1103 c32_i32_1021
  let c1_i32_1024 : BitVec 32 := 1#32
  let v1105 : BitVec 32 := Scalar.muli v1104 c1_i32_1024
  let v1106 : BitVec 32 := Scalar.addi c0_i32_1025 v1105
  v1106.toNat
def k0_dev77 (d0 : Dev nD) : Nat :=
  let c0_i32_1033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1028 : BitVec 32 := 15#32
  let v1113 : BitVec 32 := Scalar.addi v2 c15_i32_1028
  let c32_i32_1029 : BitVec 32 := 32#32
  let v1114 : BitVec 32 := Scalar.remsi v1113 c32_i32_1029
  let c1_i32_1032 : BitVec 32 := 1#32
  let v1115 : BitVec 32 := Scalar.muli v1114 c1_i32_1032
  let v1116 : BitVec 32 := Scalar.addi c0_i32_1033 v1115
  v1116.toNat
def k0_dev78 (d0 : Dev nD) : Nat :=
  let c0_i32_1041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1036 : BitVec 32 := 16#32
  let v1123 : BitVec 32 := Scalar.addi v2 c16_i32_1036
  let c32_i32_1037 : BitVec 32 := 32#32
  let v1124 : BitVec 32 := Scalar.remsi v1123 c32_i32_1037
  let c1_i32_1040 : BitVec 32 := 1#32
  let v1125 : BitVec 32 := Scalar.muli v1124 c1_i32_1040
  let v1126 : BitVec 32 := Scalar.addi c0_i32_1041 v1125
  v1126.toNat
def k0_dev79 (d0 : Dev nD) : Nat :=
  let c0_i32_1049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1044 : BitVec 32 := 17#32
  let v1133 : BitVec 32 := Scalar.addi v2 c17_i32_1044
  let c32_i32_1045 : BitVec 32 := 32#32
  let v1134 : BitVec 32 := Scalar.remsi v1133 c32_i32_1045
  let c1_i32_1048 : BitVec 32 := 1#32
  let v1135 : BitVec 32 := Scalar.muli v1134 c1_i32_1048
  let v1136 : BitVec 32 := Scalar.addi c0_i32_1049 v1135
  v1136.toNat
def k0_dev80 (d0 : Dev nD) : Nat :=
  let c0_i32_1057 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1052 : BitVec 32 := 18#32
  let v1143 : BitVec 32 := Scalar.addi v2 c18_i32_1052
  let c32_i32_1053 : BitVec 32 := 32#32
  let v1144 : BitVec 32 := Scalar.remsi v1143 c32_i32_1053
  let c1_i32_1056 : BitVec 32 := 1#32
  let v1145 : BitVec 32 := Scalar.muli v1144 c1_i32_1056
  let v1146 : BitVec 32 := Scalar.addi c0_i32_1057 v1145
  v1146.toNat
def k0_dev81 (d0 : Dev nD) : Nat :=
  let c0_i32_1065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1060 : BitVec 32 := 19#32
  let v1153 : BitVec 32 := Scalar.addi v2 c19_i32_1060
  let c32_i32_1061 : BitVec 32 := 32#32
  let v1154 : BitVec 32 := Scalar.remsi v1153 c32_i32_1061
  let c1_i32_1064 : BitVec 32 := 1#32
  let v1155 : BitVec 32 := Scalar.muli v1154 c1_i32_1064
  let v1156 : BitVec 32 := Scalar.addi c0_i32_1065 v1155
  v1156.toNat
def k0_dev82 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1068 : BitVec 32 := 20#32
  let v1163 : BitVec 32 := Scalar.addi v2 c20_i32_1068
  let c32_i32_1069 : BitVec 32 := 32#32
  let v1164 : BitVec 32 := Scalar.remsi v1163 c32_i32_1069
  let c1_i32_1072 : BitVec 32 := 1#32
  let v1165 : BitVec 32 := Scalar.muli v1164 c1_i32_1072
  let v1166 : BitVec 32 := Scalar.addi c0_i32_1073 v1165
  v1166.toNat
def k0_dev83 (d0 : Dev nD) : Nat :=
  let c0_i32_1081 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1076 : BitVec 32 := 21#32
  let v1173 : BitVec 32 := Scalar.addi v2 c21_i32_1076
  let c32_i32_1077 : BitVec 32 := 32#32
  let v1174 : BitVec 32 := Scalar.remsi v1173 c32_i32_1077
  let c1_i32_1080 : BitVec 32 := 1#32
  let v1175 : BitVec 32 := Scalar.muli v1174 c1_i32_1080
  let v1176 : BitVec 32 := Scalar.addi c0_i32_1081 v1175
  v1176.toNat
def k0_dev84 (d0 : Dev nD) : Nat :=
  let c0_i32_1089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1084 : BitVec 32 := 22#32
  let v1183 : BitVec 32 := Scalar.addi v2 c22_i32_1084
  let c32_i32_1085 : BitVec 32 := 32#32
  let v1184 : BitVec 32 := Scalar.remsi v1183 c32_i32_1085
  let c1_i32_1088 : BitVec 32 := 1#32
  let v1185 : BitVec 32 := Scalar.muli v1184 c1_i32_1088
  let v1186 : BitVec 32 := Scalar.addi c0_i32_1089 v1185
  v1186.toNat
def k0_dev85 (d0 : Dev nD) : Nat :=
  let c0_i32_1097 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1092 : BitVec 32 := 23#32
  let v1193 : BitVec 32 := Scalar.addi v2 c23_i32_1092
  let c32_i32_1093 : BitVec 32 := 32#32
  let v1194 : BitVec 32 := Scalar.remsi v1193 c32_i32_1093
  let c1_i32_1096 : BitVec 32 := 1#32
  let v1195 : BitVec 32 := Scalar.muli v1194 c1_i32_1096
  let v1196 : BitVec 32 := Scalar.addi c0_i32_1097 v1195
  v1196.toNat
def k0_dev86 (d0 : Dev nD) : Nat :=
  let c0_i32_1105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1100 : BitVec 32 := 24#32
  let v1203 : BitVec 32 := Scalar.addi v2 c24_i32_1100
  let c32_i32_1101 : BitVec 32 := 32#32
  let v1204 : BitVec 32 := Scalar.remsi v1203 c32_i32_1101
  let c1_i32_1104 : BitVec 32 := 1#32
  let v1205 : BitVec 32 := Scalar.muli v1204 c1_i32_1104
  let v1206 : BitVec 32 := Scalar.addi c0_i32_1105 v1205
  v1206.toNat
def k0_dev87 (d0 : Dev nD) : Nat :=
  let c0_i32_1113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1108 : BitVec 32 := 25#32
  let v1213 : BitVec 32 := Scalar.addi v2 c25_i32_1108
  let c32_i32_1109 : BitVec 32 := 32#32
  let v1214 : BitVec 32 := Scalar.remsi v1213 c32_i32_1109
  let c1_i32_1112 : BitVec 32 := 1#32
  let v1215 : BitVec 32 := Scalar.muli v1214 c1_i32_1112
  let v1216 : BitVec 32 := Scalar.addi c0_i32_1113 v1215
  v1216.toNat
def k0_dev88 (d0 : Dev nD) : Nat :=
  let c0_i32_1121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1116 : BitVec 32 := 26#32
  let v1223 : BitVec 32 := Scalar.addi v2 c26_i32_1116
  let c32_i32_1117 : BitVec 32 := 32#32
  let v1224 : BitVec 32 := Scalar.remsi v1223 c32_i32_1117
  let c1_i32_1120 : BitVec 32 := 1#32
  let v1225 : BitVec 32 := Scalar.muli v1224 c1_i32_1120
  let v1226 : BitVec 32 := Scalar.addi c0_i32_1121 v1225
  v1226.toNat
def k0_dev89 (d0 : Dev nD) : Nat :=
  let c0_i32_1129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1124 : BitVec 32 := 27#32
  let v1233 : BitVec 32 := Scalar.addi v2 c27_i32_1124
  let c32_i32_1125 : BitVec 32 := 32#32
  let v1234 : BitVec 32 := Scalar.remsi v1233 c32_i32_1125
  let c1_i32_1128 : BitVec 32 := 1#32
  let v1235 : BitVec 32 := Scalar.muli v1234 c1_i32_1128
  let v1236 : BitVec 32 := Scalar.addi c0_i32_1129 v1235
  v1236.toNat
def k0_dev90 (d0 : Dev nD) : Nat :=
  let c0_i32_1137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1132 : BitVec 32 := 28#32
  let v1243 : BitVec 32 := Scalar.addi v2 c28_i32_1132
  let c32_i32_1133 : BitVec 32 := 32#32
  let v1244 : BitVec 32 := Scalar.remsi v1243 c32_i32_1133
  let c1_i32_1136 : BitVec 32 := 1#32
  let v1245 : BitVec 32 := Scalar.muli v1244 c1_i32_1136
  let v1246 : BitVec 32 := Scalar.addi c0_i32_1137 v1245
  v1246.toNat
def k0_dev91 (d0 : Dev nD) : Nat :=
  let c0_i32_1145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1140 : BitVec 32 := 29#32
  let v1253 : BitVec 32 := Scalar.addi v2 c29_i32_1140
  let c32_i32_1141 : BitVec 32 := 32#32
  let v1254 : BitVec 32 := Scalar.remsi v1253 c32_i32_1141
  let c1_i32_1144 : BitVec 32 := 1#32
  let v1255 : BitVec 32 := Scalar.muli v1254 c1_i32_1144
  let v1256 : BitVec 32 := Scalar.addi c0_i32_1145 v1255
  v1256.toNat
def k0_dev92 (d0 : Dev nD) : Nat :=
  let c0_i32_1153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1148 : BitVec 32 := 30#32
  let v1263 : BitVec 32 := Scalar.addi v2 c30_i32_1148
  let c32_i32_1149 : BitVec 32 := 32#32
  let v1264 : BitVec 32 := Scalar.remsi v1263 c32_i32_1149
  let c1_i32_1152 : BitVec 32 := 1#32
  let v1265 : BitVec 32 := Scalar.muli v1264 c1_i32_1152
  let v1266 : BitVec 32 := Scalar.addi c0_i32_1153 v1265
  v1266.toNat
def k0_dev93 (d0 : Dev nD) : Nat :=
  let c0_i32_1161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1156 : BitVec 32 := 31#32
  let v1273 : BitVec 32 := Scalar.addi v2 c31_i32_1156
  let c32_i32_1157 : BitVec 32 := 32#32
  let v1274 : BitVec 32 := Scalar.remsi v1273 c32_i32_1157
  let c1_i32_1160 : BitVec 32 := 1#32
  let v1275 : BitVec 32 := Scalar.muli v1274 c1_i32_1160
  let v1276 : BitVec 32 := Scalar.addi c0_i32_1161 v1275
  v1276.toNat
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Phases.lean ====
/-
# The kernel's body as loops

The printed body is straight-line: thirty-one signals, thirty-one transfers of row blocks, eight staged chunks of the
weights, and so on, every step of a group differing from the next in its index only. Here each group is written once at a
symbolic index and run over the list of the indices, and the printed body is shown to be that program.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe
open Idealize.SL Idealize.SL.Sem

variable {F : FTy → Type} [FloatOps F]

/-! ## The memrefs and semaphores -/

/-- The device's columns of the left operand, staged. -/
abbrev xM : Memref sig .tc .vmem S4096x128 .f32 := Memref.whole cc0_stg0_0
/-- The right operand, left in the device's main memory. -/
abbrev wM : Memref sig .tc .hbm S4096x2048 .f32 := Memref.whole main_arg1
/-- The device's rows of the result, staged. -/
abbrev oM : Memref sig .tc .vmem S128x2048 .f32 := Memref.whole cc0_stg1_0
/-- The left operand's columns, narrowed. -/
abbrev xbM : Memref sig .tc .vmem S4096x128 .bf16 := Memref.whole cc0_scratch0
/-- The two staging slots of the right operand's chunks. -/
abbrev wsM : Memref sig .tc .vmem S2x512x2048 .f32 := Memref.whole cc0_scratch1
/-- The right operand, narrowed. -/
abbrev wbM : Memref sig .tc .vmem S4096x2048 .bf16 := Memref.whole cc0_scratch2
/-- The device's rows of the left operand, gathered from every device. -/
abbrev xgM : Memref sig .tc .vmem S128x4096 .bf16 := Memref.whole cc0_scratch3
/-- The device's rows of the product. -/
abbrev yM : Memref sig .tc .vmem S128x2048 .f32 := Memref.whole cc0_scratch4
/-- The device's own maximum, broadcast. -/
abbrev amM : Memref sig .tc .vmem S8x128 .f32 := Memref.whole cc0_scratch5
/-- Every device's maximum. -/
abbrev agM : Memref sig .tc .vmem S32x8x128 .f32 := Memref.whole cc0_scratch6

/-- The runtime's barrier semaphore. -/
abbrev barS : Sem sig := (SemArray.scalar (sig.barrier 0 rfl) : Sems sig S_).sem

/-- Each of thirty-one semaphores lies within its array. -/
theorem inb31 (j : Fin 31) : ∀ a, (![j.val] : Fin 1 → Nat) a + S1.size a ≤ S31.size a := by
  revert j; decide

/-- The `j`-th semaphore of an array of thirty-one. -/
abbrev sem31 (S : DmaSems sig S31) (j : Fin 31) : DmaSem sig :=
  ((S.slice (Rect.unit (s := S31) ![j.val] S1.size (inb31 j))).squeeze S_ squeezes_S1_S_).sem

/-- The semaphore of the `j`-th row block sent. -/
abbrev sndS (j : Fin 31) : DmaSem sig := sem31 cc0_scratch7 j
/-- The semaphore of the `j`-th row block received. -/
abbrev rcvS (j : Fin 31) : DmaSem sig := sem31 cc0_scratch8 j
/-- The semaphore of the `j`-th copy of the maximum sent. -/
abbrev asnS (j : Fin 31) : DmaSem sig := sem31 cc0_scratch9 j
/-- The semaphore of the `j`-th maximum received. -/
abbrev arcS (j : Fin 31) : DmaSem sig := sem31 cc0_scratch10 j

/-- Each of the two chunk semaphores lies within its array. -/
theorem inb2 (b : Fin 2) : ∀ a, (![b.val] : Fin 1 → Nat) a + S1.size a ≤ S2.size a := by
  revert b; decide

/-- The chunk semaphores. -/
abbrev wS (b : Fin 2) : DmaSem sig :=
  (((cc0_scratch11 : DmaSems sig S2).slice (Rect.unit (s := S2) ![b.val] S1.size (inb2 b))).squeeze S_ squeezes_S1_S_).sem

/-! ## The views the transfers name -/

/-- The column block of `xg` that device `c` writes, on itself and on every other device. -/
abbrev xgBlk (c : Dev nD) : Memref sig .tc .vmem S128x128 .bf16 :=
  xgM.slice (Rect.unit (s := S128x4096) (k0_off3 c) S128x128.size (k0_off3_inb c)) (fun _ => rfl)
/-- The row block of `xb` that device `c` sends in its `j`-th transfer. -/
abbrev xbBlk (c : Dev nD) (j : Fin 31) : Memref sig .tc .vmem S128x128 .bf16 :=
  xbM.slice (Rect.unit (s := S4096x128) (k0_off4 c (BitVec.ofNat 32 (1 + j.val))) S128x128.size (k0_off4_inb c j)) (fun _ => rfl)
/-- The slot of `amax_buf` that device `c` writes. -/
abbrev agBlk (c : Dev nD) : Memref sig .tc .vmem S8x128 .f32 :=
  (agM.slice (Rect.unit (s := S32x8x128) (k0_off6 c) S1x8x128.size (k0_off6_inb c)) (fun _ => rfl)).squeeze S8x128 squeezes_S1x8x128_S8x128

/-- Each staging slot lies within the staging buffer. -/
theorem inbWs (b : Fin 2) : ∀ a, (![b.val, 0, 0] : Fin 3 → Nat) a + S1x512x2048.size a ≤ S2x512x2048.size a := by
  revert b; decide
/-- Each chunk lies within the right operand. -/
theorem inbW (k : Fin 8) : ∀ a, (![512 * k.val, 0] : Fin 2 → Nat) a + S512x2048.size a ≤ S4096x2048.size a := by
  revert k; decide

/-- The slot a chunk is staged in. -/
abbrev slotOf (k : Fin 8) : Fin 2 := ⟨k.val % 2, Nat.mod_lt _ (by decide)⟩
/-- The elements of a staging slot. -/
abbrev wsRect (b : Fin 2) : Rect S2x512x2048 := Rect.unit (s := S2x512x2048) ![b.val, 0, 0] S1x512x2048.size (inbWs b)
/-- The rows of a chunk. -/
abbrev wRect (k : Fin 8) : Rect S4096x2048 := Rect.unit (s := S4096x2048) ![512 * k.val, 0] S512x2048.size (inbW k)
/-- A staging slot, as a chunk. -/
abbrev wsBlk (b : Fin 2) : Memref sig .tc .vmem S512x2048 .f32 :=
  (wsM.slice (wsRect b) (fun _ => rfl)).squeeze S512x2048 squeezes_S1x512x2048_S512x2048
/-- Chunk `k` of the right operand. -/
abbrev wBlk (k : Fin 8) : Memref sig .tc .hbm S512x2048 .f32 := wM.slice (wRect k) (fun _ => rfl)

/-! ## The devices the printed chains name -/

/-- The target of the `j`-th signal, as printed. -/
def devB (j : Fin 31) (c : Dev nD) : Dev nD :=
  (![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩, ⟨k0_dev16 c, k0_dev16_lt c⟩,
    ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩,
    ⟨k0_dev25 c, k0_dev25_lt c⟩, ⟨k0_dev26 c, k0_dev26_lt c⟩, ⟨k0_dev27 c, k0_dev27_lt c⟩, ⟨k0_dev28 c, k0_dev28_lt c⟩,
    ⟨k0_dev29 c, k0_dev29_lt c⟩, ⟨k0_dev30 c, k0_dev30_lt c⟩, ⟨k0_dev31 c, k0_dev31_lt c⟩] : Fin 31 → Dev nD) j
/-- The target of the `j`-th row-block transfer, as printed. -/
def devX (j : Fin 31) (c : Dev nD) : Dev nD :=
  (![⟨k0_dev32 c, k0_dev32_lt c⟩, ⟨k0_dev33 c, k0_dev33_lt c⟩, ⟨k0_dev34 c, k0_dev34_lt c⟩, ⟨k0_dev35 c, k0_dev35_lt c⟩,
    ⟨k0_dev36 c, k0_dev36_lt c⟩, ⟨k0_dev37 c, k0_dev37_lt c⟩, ⟨k0_dev38 c, k0_dev38_lt c⟩, ⟨k0_dev39 c, k0_dev39_lt c⟩,
    ⟨k0_dev40 c, k0_dev40_lt c⟩, ⟨k0_dev41 c, k0_dev41_lt c⟩, ⟨k0_dev42 c, k0_dev42_lt c⟩, ⟨k0_dev43 c, k0_dev43_lt c⟩,
    ⟨k0_dev44 c, k0_dev44_lt c⟩, ⟨k0_dev45 c, k0_dev45_lt c⟩, ⟨k0_dev46 c, k0_dev46_lt c⟩, ⟨k0_dev47 c, k0_dev47_lt c⟩,
    ⟨k0_dev48 c, k0_dev48_lt c⟩, ⟨k0_dev49 c, k0_dev49_lt c⟩, ⟨k0_dev50 c, k0_dev50_lt c⟩, ⟨k0_dev51 c, k0_dev51_lt c⟩,
    ⟨k0_dev52 c, k0_dev52_lt c⟩, ⟨k0_dev53 c, k0_dev53_lt c⟩, ⟨k0_dev54 c, k0_dev54_lt c⟩, ⟨k0_dev55 c, k0_dev55_lt c⟩,
    ⟨k0_dev56 c, k0_dev56_lt c⟩, ⟨k0_dev57 c, k0_dev57_lt c⟩, ⟨k0_dev58 c, k0_dev58_lt c⟩, ⟨k0_dev59 c, k0_dev59_lt c⟩,
    ⟨k0_dev60 c, k0_dev60_lt c⟩, ⟨k0_dev61 c, k0_dev61_lt c⟩, ⟨k0_dev62 c, k0_dev62_lt c⟩] : Fin 31 → Dev nD) j
/-- The target of the `j`-th transfer of the maximum, as printed. -/
def devA (j : Fin 31) (c : Dev nD) : Dev nD :=
  (![⟨k0_dev63 c, k0_dev63_lt c⟩, ⟨k0_dev64 c, k0_dev64_lt c⟩, ⟨k0_dev65 c, k0_dev65_lt c⟩, ⟨k0_dev66 c, k0_dev66_lt c⟩,
    ⟨k0_dev67 c, k0_dev67_lt c⟩, ⟨k0_dev68 c, k0_dev68_lt c⟩, ⟨k0_dev69 c, k0_dev69_lt c⟩, ⟨k0_dev70 c, k0_dev70_lt c⟩,
    ⟨k0_dev71 c, k0_dev71_lt c⟩, ⟨k0_dev72 c, k0_dev72_lt c⟩, ⟨k0_dev73 c, k0_dev73_lt c⟩, ⟨k0_dev74 c, k0_dev74_lt c⟩,
    ⟨k0_dev75 c, k0_dev75_lt c⟩, ⟨k0_dev76 c, k0_dev76_lt c⟩, ⟨k0_dev77 c, k0_dev77_lt c⟩, ⟨k0_dev78 c, k0_dev78_lt c⟩,
    ⟨k0_dev79 c, k0_dev79_lt c⟩, ⟨k0_dev80 c, k0_dev80_lt c⟩, ⟨k0_dev81 c, k0_dev81_lt c⟩, ⟨k0_dev82 c, k0_dev82_lt c⟩,
    ⟨k0_dev83 c, k0_dev83_lt c⟩, ⟨k0_dev84 c, k0_dev84_lt c⟩, ⟨k0_dev85 c, k0_dev85_lt c⟩, ⟨k0_dev86 c, k0_dev86_lt c⟩,
    ⟨k0_dev87 c, k0_dev87_lt c⟩, ⟨k0_dev88 c, k0_dev88_lt c⟩, ⟨k0_dev89 c, k0_dev89_lt c⟩, ⟨k0_dev90 c, k0_dev90_lt c⟩,
    ⟨k0_dev91 c, k0_dev91_lt c⟩, ⟨k0_dev92 c, k0_dev92_lt c⟩, ⟨k0_dev93 c, k0_dev93_lt c⟩] : Fin 31 → Dev nD) j

/-! ## Loops -/

/-- The effect at every index of a list, in order, then the rest. -/
def each {ι β : Type} (f : ι → TpuEff nD τ sig (Elt F) Λ₀ .tc PUnit) : List ι → Prog (TpuEff nD τ sig (Elt F) Λ₀ .tc) β →
    Prog (TpuEff nD τ sig (Elt F) Λ₀ .tc) β
  | [], k => k
  | i :: l, k => .op (f i) fun _ => each f l k

/-- The thirty-one indices. -/
def all31 : List (Fin 31) := [0, 1, 2, 3, 4, 5, 6, 7, 8, 9, 10, 11, 12, 13, 14, 15, 16, 17, 18, 19, 20, 21, 22, 23, 24, 25, 26, 27, 28, 29, 30]

/-! ## The effects -/

/-- A TensorCore's programs. -/
abbrev TProg (F : FTy → Type) [FloatOps F] (β : Type) : Type 1 := Prog (TpuEff nD τ sig (Elt F) Λ₀ .tc) β

/-- The `j`-th signal to another device's barrier. -/
abbrev sigE (c : Dev nD) (j : Fin 31) : TpuEff nD τ sig (Elt F) Λ₀ .tc PUnit := .semSignal (devB j c : Thread nD τ) barS ((1 : ℕ) : ℤ)
/-- The `j`-th row block's transfer started. -/
abbrev sendE (c : Dev nD) (j : Fin 31) : TpuEff nD τ sig (Elt F) Λ₀ .tc PUnit :=
  .enqueueDma (xbBlk c j) (.remote (Dev.tc (devX j c)) (xgBlk c) (.dma (sndS j))) (.dma (rcvS j))
    ((Memref.isWhole_whole _).wordExact_slice rfl _ (k0_off4_wordsbf16 c j)) ((Memref.isWhole_whole _).wordExact_slice rfl _ (k0_off3_wordsbf16 c))
    ⟨⟨rfl, Or.inl rfl⟩, trivial⟩
/-- A chunk's copy into its slot started. -/
abbrev wcopyE (k : Fin 8) : TpuEff nD τ sig (Elt F) Λ₀ .tc PUnit :=
  .enqueueDma (wBlk k) (.here (wsBlk (slotOf k))) (.dma (wS (slotOf k))) (View.wordExact_bits rfl) ((View.wordExact_bits rfl).reshape _ _) ⟨Or.inl rfl, trivial⟩
/-- The wait for a chunk's copy. -/
abbrev wwaitE (k : Fin 8) : TpuEff nD τ sig (Elt F) Λ₀ .tc PUnit :=
  .waitDma2 (wS (slotOf k)) (wBlk k) (wsBlk (slotOf k)) (View.wordExact_bits rfl) ((View.wordExact_bits rfl).reshape _ _)
/-- The wait for the `j`-th row block to arrive. -/
abbrev rwaitE (c : Dev nD) (j : Fin 31) : TpuEff nD τ sig (Elt F) Λ₀ .tc PUnit :=
  .waitDma2 (rcvS j) (xbBlk c j) (xgBlk c)
    ((Memref.isWhole_whole _).wordExact_slice rfl _ (k0_off4_wordsbf16 c j)) ((Memref.isWhole_whole _).wordExact_slice rfl _ (k0_off3_wordsbf16 c))
/-- The wait for the `j`-th row block to have been sent. -/
abbrev swaitE (c : Dev nD) (j : Fin 31) : TpuEff nD τ sig (Elt F) Λ₀ .tc PUnit :=
  .waitDma2 (sndS j) (xgBlk c) (xbBlk c j)
    ((Memref.isWhole_whole _).wordExact_slice rfl _ (k0_off3_wordsbf16 c)) ((Memref.isWhole_whole _).wordExact_slice rfl _ (k0_off4_wordsbf16 c j))
/-- The `j`-th transfer of the maximum started. -/
abbrev asendE (c : Dev nD) (j : Fin 31) : TpuEff nD τ sig (Elt F) Λ₀ .tc PUnit :=
  .enqueueDma amM (.remote (Dev.tc (devA j c)) (agBlk c) (.dma (asnS j))) (.dma (arcS j))
    (Memref.isWhole_whole _).wordExact ((View.wordExact_bits rfl).reshape _ _) ⟨⟨rfl, Or.inl rfl⟩, trivial⟩
/-- The wait for the `j`-th maximum to arrive. -/
abbrev arwaitE (c : Dev nD) (j : Fin 31) : TpuEff nD τ sig (Elt F) Λ₀ .tc PUnit :=
  .waitDma2 (arcS j) amM (agBlk c) (Memref.isWhole_whole _).wordExact ((View.wordExact_bits rfl).reshape _ _)
/-- The wait for the `j`-th copy of the maximum to have been sent. -/
abbrev aswaitE (c : Dev nD) (j : Fin 31) : TpuEff nD τ sig (Elt F) Λ₀ .tc PUnit :=
  .waitDma2 (asnS j) (agBlk c) amM ((View.wordExact_bits rfl).reshape _ _) (Memref.isWhole_whole _).wordExact

/-- The rows of a chunk are whole packed rows at the narrow type. -/
theorem packedW (k : Fin 8) : (wRect k).PackedRows (EltTy.packing .bf16) := by
  fin_cases k
  exacts [packedbf16_S4096x2048_S512x2048_0_0, packedbf16_S4096x2048_S512x2048_512_0, packedbf16_S4096x2048_S512x2048_1024_0,
    packedbf16_S4096x2048_S512x2048_1536_0, packedbf16_S4096x2048_S512x2048_2048_0, packedbf16_S4096x2048_S512x2048_2560_0,
    packedbf16_S4096x2048_S512x2048_3072_0, packedbf16_S4096x2048_S512x2048_3584_0]

/-- The stretch between a chunk's wait (and the next chunk's start) and the next chunk's wait: the slot read, the
    destination read (and dropped), the narrowed chunk stored. -/
def wstep {β : Type} (k : Fin 8) (K : Prog (TpuEff nD τ sig (Elt F) Λ₀ .tc) β) : Prog (TpuEff nD τ sig (Elt F) Λ₀ .tc) β :=
  Prog.op (.load wsM (wsRect (slotOf k)).toLoadRect (View.loadsAt_vmem h_S1x512x2048)) fun v =>
  Prog.op (.load wbM (wRect k).toLoadRect (View.loadsAt_vmem h_S512x2048)) fun _ =>
  Prog.op (.store wbM (wRect k) (k0_pay3 v) Finset.univ
    (View.stores_vmem h_S512x2048 ((Memref.isWhole_whole _).storeExact_slice rfl _ (packedW k)) (fun _ => rfl)) (.inl rfl)) fun _ => K

/-- The chunks after the first, each started when the one before it has arrived, and the last. -/
def wrest {β : Type} (K : Prog (TpuEff nD τ sig (Elt F) Λ₀ .tc) β) : List (Fin 8 × Fin 8) → Prog (TpuEff nD τ sig (Elt F) Λ₀ .tc) β
  | [] => Prog.op (wwaitE 7) fun _ => wstep 7 K
  | (k, k') :: l => .op (wwaitE k) fun _ => .op (wcopyE k') fun _ => wstep k (wrest K l)

/-- A chunk and the one after it. -/
def all7 : List (Fin 8 × Fin 8) := [(0, 1), (1, 2), (2, 3), (3, 4), (4, 5), (5, 6), (6, 7)]

/-- All of the staged columns. -/
abbrev xRect : Rect S4096x128 := Rect.unit (s := S4096x128) ![0, 0] S4096x128.size inb_S4096x128_S4096x128_0_0
/-- All of the product, and of the result. -/
abbrev oRect : Rect S128x2048 := Rect.unit (s := S128x2048) ![0, 0] S128x2048.size inb_S128x2048_S128x2048_0_0
/-- All of a device's own maximum. -/
abbrev aRect : Rect S8x128 := Rect.unit (s := S8x128) ![0, 0] S8x128.size inb_S8x128_S8x128_0_0

variable {β : Type}

/-- The device's columns narrowed, its own block copied into place. -/
def castP (c : Dev nD) (K : TProg F β) : TProg F β :=
  Prog.op (.load xM xRect.toLoadRect (View.loadsAt_vmem h_S4096x128)) fun v =>
  Prog.op (.load xbM xRect.toLoadRect (View.loadsAt_vmem h_S4096x128)) fun _ =>
  Prog.op (.store xbM xRect (k0_pay1 v) Finset.univ
    (View.stores_vmem h_S4096x128 ((Memref.isWhole_whole _).storeExact_slice rfl _ packedbf16_S4096x128_S4096x128_0_0) (fun _ => rfl)) (.inl rfl)) fun _ =>
  Prog.op (.load xbM (Rect.unit (s := S4096x128) (k0_off1 c) S128x128.size (k0_off1_inb c)).toLoadRect (View.loadsAt_vmem h_S128x128)) fun v =>
  Prog.op (.load xgM (Rect.unit (s := S128x4096) (k0_off2 c) S128x128.size (k0_off2_inb c)).toLoadRect (View.loadsAt_vmem h_S128x128)) fun _ =>
  Prog.op (.store xgM (Rect.unit (s := S128x4096) (k0_off2 c) S128x128.size (k0_off2_inb c)) (k0_pay2 v) Finset.univ
    (View.stores_vmem h_S128x128 ((Memref.isWhole_whole _).storeExact_slice rfl _ (k0_off2_packedbf16 c)) (fun _ => rfl)) (.inl rfl)) fun _ => K

/-- The product and its maximum. -/
def dotP (K : FVec F S128x2048 .f32 → TProg F β) : TProg F β :=
  Prog.op (.load xgM (Rect.unit (s := S128x4096) ![0, 0] S128x4096.size inb_S128x4096_S128x4096_0_0).toLoadRect (View.loadsAt_vmem h_S128x4096)) fun v =>
  Prog.op (.load wbM (Rect.unit (s := S4096x2048) ![0, 0] S4096x2048.size inb_S4096x2048_S4096x2048_0_0).toLoadRect (View.loadsAt_vmem h_S4096x2048)) fun w =>
  Prog.op (.load yM oRect.toLoadRect (View.loadsAt_vmem h_S128x2048)) fun _ =>
  Prog.op (.store yM oRect (k0_pay12 v w) Finset.univ (View.stores_vmem_bits_univ h_S128x2048 rfl) (.inl rfl)) fun _ => K (k0_pay11 v w)

/-- The device's maximum stored, and copied into its own slot. -/
def amaxP (c : Dev nD) (y : FVec F S128x2048 .f32) (K : TProg F β) : TProg F β :=
  Prog.op (.load amM aRect.toLoadRect (View.loadsAt_vmem h_S8x128)) fun _ =>
  Prog.op (.store amM aRect (k0_pay13 y) Finset.univ (View.stores_vmem_bits_univ h_S8x128 rfl) (.inl rfl)) fun _ =>
  Prog.op (.load amM aRect.toLoadRect (View.loadsAt_vmem h_S8x128)) fun v =>
  Prog.op (.load agM (Rect.unit (s := S32x8x128) (k0_off5 c) S1x8x128.size (k0_off5_inb c)).toLoadRect (View.loadsAt_vmem h_S1x8x128)) fun _ =>
  Prog.op (.store agM (Rect.unit (s := S32x8x128) (k0_off5 c) S1x8x128.size (k0_off5_inb c)) (k0_pay14 v) Finset.univ
    (View.stores_vmem_bits_univ h_S1x8x128 rfl) (.inl rfl)) fun _ => K

/-- The result quantised with the largest of the maxima and stored. -/
def quantP (K : TProg F β) : TProg F β :=
  Prog.op (.load agM (Rect.unit (s := S32x8x128) ![0, 0, 0] S32x8x128.size inb_S32x8x128_S32x8x128_0_0_0).toLoadRect (View.loadsAt_vmem h_S32x8x128)) fun a =>
  Prog.op (.load yM oRect.toLoadRect (View.loadsAt_vmem h_S128x2048)) fun y =>
  Prog.op (.load oM oRect.toLoadRect (View.loadsAt_vmem h_S128x2048)) fun _ =>
  Prog.op (.store oM oRect (k0_pay15 a y) Finset.univ (View.stores_vmem_bits_univ h_S128x2048 rfl) (.inl rfl)) fun _ => K

/-- The body as loops. -/
def bodyP : TProg F PUnit :=
  Prog.op .deviceId fun c : Dev nD =>
  each (sigE c) all31 <|
  Prog.op (.semWait barS ((31 : ℕ) : ℤ)) fun _ =>
  castP c <|
  each (sendE c) all31 <|
  Prog.op (wcopyE 0) fun _ =>
  wrest (K := each (rwaitE c) all31 <|
    dotP fun y =>
    each (swaitE c) all31 <|
    amaxP c y <|
    each (asendE c) all31 <|
    each (arwaitE c) all31 <|
    quantP <|
    each (aswaitE c) all31 <|
    .ret ⟨⟩) all7

set_option maxRecDepth 65536 in
/-- The printed body is the loops', by unfolding. -/
theorem body_eq : cc0_body (F := F) xM (Memref.isWhole_whole _) wM (Memref.isWhole_whole _) oM (Memref.isWhole_whole _) xbM (Memref.isWhole_whole _)
    wsM (Memref.isWhole_whole _) wbM (Memref.isWhole_whole _) xgM (Memref.isWhole_whole _) yM (Memref.isWhole_whole _) amM (Memref.isWhole_whole _)
    agM (Memref.isWhole_whole _) cc0_scratch7 cc0_scratch8 cc0_scratch9 cc0_scratch10 cc0_scratch11 = bodyP := rfl

end Cert.KProof
-- ==== Proof.Geometry.lean ====
/-
# The ring, the blocks, and what each buffer comes to hold

The devices a device addresses (`tgt`) and is addressed by (`src`), the printed chains in closed form, the blocks the
transfers move, and — as plain functions of the arrays at launch — what each buffer holds when the transfers have landed.
-/
module

public import proofs.«01_k».proof.Proof.Phases
public import Idealize.ShloMosaic.Lib.Ring
public import Idealize.ShloMosaic.Lib.ValueLayout

@[expose] public section

noncomputable section

namespace Cert.KProof

open Cert.KernelIdeal Cert.KernelIdeal.Gen
open Idealize.ShloMosaic Idealize.ShloMosaic.ValueIdx
open Idealize.ShloMosaic.TcCoe
open Idealize.ShloMosaic.Ring (lead_disjoint lead_cover)
open Idealize.SL Idealize.SL.Sem

variable {F : FTy → Type} [FloatOps F]

/-! ## The ring -/

set_option backward.proofsInPublic true in
/-- The device `c` addresses in its `j`-th step: `j + 1` after it. -/
def tgt (c : Dev nD) (j : Fin 31) : Dev nD := ⟨(c.val + j.val + 1) % 32, Nat.mod_lt _ (by decide)⟩
set_option backward.proofsInPublic true in
/-- The device that addresses `c` in its `j`-th step: `j + 1` before it. -/
def src (c : Dev nD) (j : Fin 31) : Dev nD := ⟨(c.val + 31 - j.val) % 32, Nat.mod_lt _ (by decide)⟩

/-- The number of the device `c` addresses in step `j`. -/
theorem tgt_val (c : Dev nD) (j : Fin 31) : (tgt c j).val = (c.val + j.val + 1) % 32 := rfl
/-- The number of the device that addresses `c` in step `j`. -/
theorem src_val (c : Dev nD) (j : Fin 31) : (src c j).val = (c.val + 31 - j.val) % 32 := rfl

/-- The device that addresses, in step `j`, the one `c` addresses in step `j` is `c`. -/
theorem src_tgt (c : Dev nD) (j : Fin 31) : src (tgt c j) j = c := by
  apply Fin.ext; have h : c.val < 32 := c.isLt
  rw [src_val, tgt_val]; omega
/-- The device addressed, in step `j`, by the one that addresses `c` in step `j` is `c`. -/
theorem tgt_src (c : Dev nD) (j : Fin 31) : tgt (src c j) j = c := by
  apply Fin.ext; have h : c.val < 32 := c.isLt
  rw [tgt_val, src_val]; omega
/-- Counted from the far end, the devices that address `c` are the devices it addresses. -/
theorem src_rev (c : Dev nD) (j : Fin 31) : src c (Fin.rev j) = tgt c j := by
  apply Fin.ext; have h : c.val < 32 := c.isLt
  rw [src_val, tgt_val, Fin.val_rev]; omega

/-- The `j`-th step, as a permutation of the devices. -/
def ring (j : Fin 31) : Dev nD ≃ Dev nD := ⟨(tgt · j), (src · j), (src_tgt · j), (tgt_src · j)⟩

/-- No device addresses itself. -/
theorem tgt_ne (c : Dev nD) (j : Fin 31) : tgt c j ≠ c := by
  intro h; have := congrArg Fin.val h; have hc : c.val < 32 := c.isLt
  rw [tgt_val] at this; omega
/-- A device addresses different devices in different steps. -/
theorem tgt_inj (c : Dev nD) {i j : Fin 31} (h : tgt c i = tgt c j) : i = j := by
  apply Fin.ext; have := congrArg Fin.val h; have hc : c.val < 32 := c.isLt
  rw [tgt_val, tgt_val] at this; omega
/-- No device is addressed by itself. -/
theorem src_ne (c : Dev nD) (j : Fin 31) : src c j ≠ c := by
  intro h; have := congrArg Fin.val h; have hc : c.val < 32 := c.isLt
  rw [src_val] at this; omega
/-- Different devices address `c` in different steps. -/
theorem src_inj (c : Dev nD) {i j : Fin 31} (h : src c i = src c j) : i = j := by
  apply Fin.ext; have := congrArg Fin.val h; have hc : c.val < 32 := c.isLt
  rw [src_val, src_val] at this; omega

/-- Every device is `c` or one it addresses. -/
theorem univ_tgt (c : Dev nD) : (Finset.univ : Finset (Dev nD)) = insert c (Finset.univ.map ⟨tgt c, fun _ _ => tgt_inj c⟩) := by
  revert c; decide +kernel
/-- Every device is `c` or one that addresses it. -/
theorem univ_src (c : Dev nD) : (Finset.univ : Finset (Dev nD)) = insert c (Finset.univ.map ⟨src c, fun _ _ => src_inj c⟩) := by
  revert c; decide +kernel

/-! ## The printed chains -/

/-- The `j`-th signal goes to the device addressed in step `j`. -/
theorem devB_eq (j : Fin 31) (c : Dev nD) : devB j c = tgt c j := by revert j c; decide +kernel
/-- The `j`-th row block goes to the device addressed in step `j`. -/
theorem devX_eq (j : Fin 31) (c : Dev nD) : devX j c = tgt c j := by revert j c; decide +kernel
/-- The `j`-th copy of the maximum goes to the device addressed in step `j`. -/
theorem devA_eq (j : Fin 31) (c : Dev nD) : devA j c = tgt c j := by revert j c; decide +kernel

/-- Device `c`'s own row block starts at row `128 * c`. -/
theorem off1_eq (c : Dev nD) : k0_off1 c = ![128 * c.val, 0] := by revert c; decide +kernel
/-- Device `c`'s own column block starts at column `128 * c` where it is stored. -/
theorem off2_eq (c : Dev nD) : k0_off2 c = ![0, 128 * c.val] := by revert c; decide +kernel
/-- Device `c`'s column block starts at column `128 * c` where it is transferred. -/
theorem off3_eq (c : Dev nD) : k0_off3 c = ![0, 128 * c.val] := by revert c; decide +kernel
/-- The row block of the `j`-th transfer starts at row 128 times the number of the device addressed. -/
theorem off4_eq (c : Dev nD) (j : Fin 31) : k0_off4 c (BitVec.ofNat 32 (1 + j.val)) = ![128 * (tgt c j).val, 0] := by revert c j; decide +kernel
/-- Device `c`'s slot of the maxima is the `c`-th where it is stored. -/
theorem off5_eq (c : Dev nD) : k0_off5 c = ![c.val, 0, 0] := by revert c; decide +kernel
/-- Device `c`'s slot of the maxima is the `c`-th where it is transferred. -/
theorem off6_eq (c : Dev nD) : k0_off6 c = ![c.val, 0, 0] := by revert c; decide +kernel

/-! ## The blocks -/

/-- Row block `d` lies within the narrowed columns. -/
theorem xb_inb (d : Dev nD) : ∀ a, (![128 * d.val, 0] : Fin 2 → Nat) a + S128x128.size a ≤ S4096x128.size a := off1_eq d ▸ k0_off1_inb d
/-- Column block `d` lies within the gathered rows. -/
theorem xg_inb (d : Dev nD) : ∀ a, (![0, 128 * d.val] : Fin 2 → Nat) a + S128x128.size a ≤ S128x4096.size a := off3_eq d ▸ k0_off3_inb d
/-- Slot `d` lies within the gathered maxima. -/
theorem ag_inb (d : Dev nD) : ∀ a, (![d.val, 0, 0] : Fin 3 → Nat) a + S1x8x128.size a ≤ S32x8x128.size a := off6_eq d ▸ k0_off6_inb d

/-- Row block `d` of the narrowed columns. -/
abbrev xbRect (d : Dev nD) : Rect S4096x128 := Rect.unit (s := S4096x128) ![128 * d.val, 0] S128x128.size (xb_inb d)
/-- Column block `d` of the gathered rows. -/
abbrev xgRect (d : Dev nD) : Rect S128x4096 := Rect.unit (s := S128x4096) ![0, 128 * d.val] S128x128.size (xg_inb d)
/-- Slot `d` of the gathered maxima. -/
abbrev agRect (d : Dev nD) : Rect S32x8x128 := Rect.unit (s := S32x8x128) ![d.val, 0, 0] S1x8x128.size (ag_inb d)

/-- Two unit rectangles at equal offsets are one. -/
theorem unit_congr {s : Shape} {off off' size : Fin s.rank → Nat} (h : off = off') (h1 : ∀ a, off a + size a ≤ s.size a) (h2 : ∀ a, off' a + size a ≤ s.size a) :
    Rect.unit (s := s) off size h1 = Rect.unit (s := s) off' size h2 := by subst h; rfl

/-- Two unit rectangles at equal offsets hold the same elements. -/
theorem unit_set_congr {s : Shape} {off off' size : Fin s.rank → Nat} (h : off = off') (h1 : ∀ a, off a + size a ≤ s.size a) (h2 : ∀ a, off' a + size a ≤ s.size a) :
    (Rect.unit (s := s) off size h1).set = (Rect.unit (s := s) off' size h2).set := by subst h; rfl

/-- The block sent in step `j` is the row block of the device addressed. -/
theorem xbBlk_eq (c : Dev nD) (j : Fin 31) : xbBlk c j = xbM.slice (xbRect (tgt c j)) (fun _ => rfl) := by
  unfold xbBlk; exact Memref.slice_unit_congr _ (off4_eq c j) _ _ _ _
/-- The block device `c` writes is column block `c`. -/
theorem xgBlk_eq (c : Dev nD) : xgBlk c = xgM.slice (xgRect c) (fun _ => rfl) := by
  unfold xgBlk; exact Memref.slice_unit_congr _ (off3_eq c) _ _ _ _
/-- The slot device `c` writes is slot `c`. -/
theorem agBlk_eq (c : Dev nD) : agBlk c = (agM.slice (agRect c) (fun _ => rfl)).squeeze S8x128 squeezes_S1x8x128_S8x128 := by
  unfold agBlk; rw [Memref.slice_unit_congr agM (off6_eq c) (k0_off6_inb c) (ag_inb c) (fun _ => rfl) (fun _ => rfl)]

/-- Different row blocks of the narrowed columns do not overlap. -/
theorem xb_disj (d d' : Dev nD) (h : d ≠ d') : Disjoint (xbRect d).set (xbRect d').set :=
  lead_disjoint (s := S4096x128) (NB := 32) (0 : Fin 2) 128 (fun d => ![128 * d.val, 0]) S128x128.size xb_inb (fun _ => rfl) rfl d d' h
/-- The row blocks cover the narrowed columns. -/
theorem xb_cover : Finset.univ.biUnion (fun d : Dev nD => (xbRect d).set) = Finset.univ :=
  lead_cover (s := S4096x128) (NB := 32) (0 : Fin 2) 128 (fun d => ![128 * d.val, 0]) S128x128.size xb_inb (fun _ => rfl)
    (fun _ a ha => by fin_cases a; · exact absurd rfl ha
                      · rfl) rfl (fun a ha => by fin_cases a; · exact absurd rfl ha
                                                 · rfl) rfl
/-- Different column blocks of the gathered rows do not overlap. -/
theorem xg_disj (d d' : Dev nD) (h : d ≠ d') : Disjoint (xgRect d).set (xgRect d').set :=
  lead_disjoint (s := S128x4096) (NB := 32) (1 : Fin 2) 128 (fun d => ![0, 128 * d.val]) S128x128.size xg_inb (fun _ => rfl) rfl d d' h
/-- The column blocks cover the gathered rows. -/
theorem xg_cover : Finset.univ.biUnion (fun d : Dev nD => (xgRect d).set) = Finset.univ :=
  lead_cover (s := S128x4096) (NB := 32) (1 : Fin 2) 128 (fun d => ![0, 128 * d.val]) S128x128.size xg_inb (fun _ => rfl)
    (fun _ a ha => by fin_cases a; · rfl
                      · exact absurd rfl ha) rfl (fun a ha => by fin_cases a; · rfl
                                                                 · exact absurd rfl ha) rfl
/-- Different slots of the gathered maxima do not overlap. -/
theorem ag_disj (d d' : Dev nD) (h : d ≠ d') : Disjoint (agRect d).set (agRect d').set :=
  lead_disjoint (s := S32x8x128) (NB := 32) (0 : Fin 3) 1 (fun d => ![d.val, 0, 0]) S1x8x128.size ag_inb (fun d => (Nat.one_mul _).symm) rfl d d' h
/-- The slots cover the gathered maxima. -/
theorem ag_cover : Finset.univ.biUnion (fun d : Dev nD => (agRect d).set) = Finset.univ :=
  lead_cover (s := S32x8x128) (NB := 32) (0 : Fin 3) 1 (fun d => ![d.val, 0, 0]) S1x8x128.size ag_inb (fun d => (Nat.one_mul _).symm)
    (fun _ a ha => by fin_cases a; · exact absurd rfl ha
                      · rfl
                      · rfl) rfl (fun a ha => by fin_cases a; · exact absurd rfl ha
                                                 · rfl
                                                 · rfl) rfl

/-- The elements of the block sent in step `j` are those of the addressed device's row block. -/
theorem xbBlk_set (c : Dev nD) (j : Fin 31) : (xbBlk c j).view.set = (xbRect (tgt c j)).set := by
  exact (View.set_slice_whole _ _).trans (unit_set_congr (off4_eq c j) _ _)
/-- The elements of the block device `c` writes are those of column block `c`. -/
theorem xgBlk_set (c : Dev nD) : (xgBlk c).view.set = (xgRect c).set := by
  exact (View.set_slice_whole _ _).trans (unit_set_congr (off3_eq c) _ _)
/-- The elements of the slot device `c` writes are those of slot `c`. -/
theorem agBlk_set (c : Dev nD) : (agBlk c).view.set = (agRect c).set := by
  exact (View.set_reshape _ _).trans ((View.set_slice_whole _ _).trans (unit_set_congr (off6_eq c) _ _))
/-- The elements of a chunk's view are those of its rows. -/
theorem wBlk_set (k : Fin 8) : (wBlk k).view.set = (wRect k).set := View.set_slice_whole _ _
/-- The elements of a slot's view are those of the slot. -/
theorem wsBlk_set (b : Fin 2) : (wsBlk b).view.set = (wsRect b).set := (View.set_reshape _ _).trans (View.set_slice_whole _ _)

/-! ## Contents -/

variable (m : (ℓ : Loc nD τ sig) → Buf (Elt F) ℓ)

/-- Device `c`'s columns of the left operand, as the launch stages them. -/
def xstg (c : Dev nD) : (cc0_stg0_0 : Ref sig .tc).ty.Contents (Elt F) :=
  (win0_0.blk (0 : Fin 1)).view.read (Elt F) (m ((c : Thread nD τ).loc main_arg0))

/-- Device `c`'s copy of the right operand. -/
def Wm (c : Dev nD) : S4096x2048.Idx → F .f32 := m ((c : Thread nD τ).loc main_arg1)

/-- Device `c`'s columns, narrowed. -/
def XB (c : Dev nD) : S4096x128.Idx → F .bf16 := k0_pay1 (xstg m c)

/-- A row below 4096 belongs to one of the thirty-two devices. -/
theorem div128 {n : Nat} (i : Fin n) (h : n = 4096) : i.val / 128 < nD := by
  have := i.isLt; rw [Nat.div_lt_iff_lt_mul (by decide)]; show i.val < 32 * 128; omega

/-- Device `c`'s rows of the left operand, narrowed: column `i` is device `i / 128`'s. -/
def XG (c : Dev nD) : S128x4096.Idx → F .bf16 := fun i =>
  XB m ⟨(i 1).val / 128, div128 (n := 4096) (i 1) rfl⟩
    (ix2 (n0 := 4096) (n1 := 128) ⟨128 * c.val + (i 0).val, by have h0 : (i 0).val < 128 := (i 0).isLt; have h1 : c.val < 32 := c.isLt; omega⟩
      ⟨(i 1).val % 128, Nat.mod_lt _ (by decide)⟩)

/-- Device `c`'s right operand, narrowed. -/
def WB (c : Dev nD) : S4096x2048.Idx → F .bf16 := truncf (F := F) (s := S4096x2048) .bf16 (Wm m c) bitsLt_bf16_f32

/-- A staging slot holding chunk `k`. -/
def WS (c : Dev nD) (k : Fin 8) : S2x512x2048.Idx → F .f32 := fun i =>
  Wm m c (ix2 (n0 := 4096) (n1 := 2048) ⟨512 * k.val + (i 1).val, by have h0 : (i 1).val < 512 := (i 1).isLt; have h1 : k.val < 8 := k.isLt; omega⟩ (i 2))

/-- Device `c`'s rows of the product. -/
def YY (c : Dev nD) : S128x2048.Idx → F .f32 := k0_pay12 (XG m c) (WB m c)
/-- Its maximum, broadcast. -/
def AM (c : Dev nD) : S8x128.Idx → F .f32 := k0_pay13 (k0_pay11 (XG m c) (WB m c))
/-- Every device's maximum. -/
def AG : S32x8x128.Idx → F .f32 := fun i => AM m (i 0) (ix2 (n0 := 8) (n1 := 128) (i 1) (i 2))
/-- Device `c`'s rows of the result. -/
def OUT (c : Dev nD) : S128x2048.Idx → F .f32 := k0_pay15 (AG m) (YY m c)

/-! ## What the transfers land -/

/-- A row block of device `c`, landed in the column block `c` of `tgt c j`. -/
theorem xg_landed (c : Dev nD) (j : Fin 31) (fd : S128x4096.Idx → F .bf16) (i : S128x4096.Idx) (hi : i ∈ (xgRect c).set) :
    (xgBlk c).view.write (Elt F) fd ((xbBlk c j).view.read (Elt F) (XB m c)) Finset.univ i = XG m (tgt c j) i := by
  rw [← xgBlk_set] at hi
  obtain ⟨x, -, rfl⟩ := Finset.mem_map.mp hi
  rw [View.write_emb_of_mem _ _ (Finset.mem_univ x), View.read_apply]
  have hx0 : (x 0).val < 128 := (x 0).isLt
  have hx1 : (x 1).val < 128 := (x 1).isLt
  have e0 : (((xgBlk c).view.emb x : S128x4096.Idx) 0).val = (x 0).val := by
    show k0_off3 c 0 + 1 * (x 0).val = _
    have h : k0_off3 c 0 = 0 := congrFun (off3_eq c) 0
    omega
  have e1 : (((xgBlk c).view.emb x : S128x4096.Idx) 1).val = 128 * c.val + (x 1).val := by
    show k0_off3 c 1 + 1 * (x 1).val = _
    have h : k0_off3 c 1 = 128 * c.val := congrFun (off3_eq c) 1
    omega
  have f0 : (((xbBlk c j).view.emb x : S4096x128.Idx) 0).val = 128 * (tgt c j).val + (x 0).val := by
    show k0_off4 c (BitVec.ofNat 32 (1 + j.val)) 0 + 1 * (x 0).val = _
    have h : k0_off4 c (BitVec.ofNat 32 (1 + j.val)) 0 = 128 * (tgt c j).val := congrFun (off4_eq c j) 0
    omega
  have f1 : (((xbBlk c j).view.emb x : S4096x128.Idx) 1).val = (x 1).val := by
    show k0_off4 c (BitVec.ofNat 32 (1 + j.val)) 1 + 1 * (x 1).val = _
    have h : k0_off4 c (BitVec.ofNat 32 (1 + j.val)) 1 = 0 := congrFun (off4_eq c j) 1
    omega
  show XB m c ((xbBlk c j).view.emb x) = XG m (tgt c j) ((xgBlk c).view.emb x)
  unfold XG
  have hd : (⟨(((xgBlk c).view.emb x : S128x4096.Idx) 1).val / 128, div128 (n := 4096) _ rfl⟩ : Dev nD) = c := by
    apply Fin.ext; show (((xgBlk c).view.emb x : S128x4096.Idx) 1).val / 128 = c.val; rw [e1]; omega
  rw [hd]
  refine congrArg (XB m c) ((eq_ix2 ((xbBlk c j).view.emb x : S4096x128.Idx)).trans (congrArg₂ ix2 (Fin.ext ?_) (Fin.ext ?_)))
  · rw [f0]; show _ = 128 * (tgt c j).val + (((xgBlk c).view.emb x : S128x4096.Idx) 0).val; rw [e0]
  · rw [f1]; show _ = (((xgBlk c).view.emb x : S128x4096.Idx) 1).val % 128; rw [e1]; omega

/-- The device's own block, loaded from its narrowed columns and stored in its own column block. -/
theorem xg_own (c : Dev nD) (fd : S128x4096.Idx → F .bf16) (i : S128x4096.Idx) (hi : i ∈ (xgRect c).set) :
    ((xgM : Memref sig .tc .vmem S128x4096 .bf16).access (Rect.unit (s := S128x4096) (k0_off2 c) S128x128.size (k0_off2_inb c)) : View sig .tc _ _ _).write (Elt F) fd
      (k0_pay2 ((xbM : Memref sig .tc .vmem S4096x128 .bf16).view.readAt (Elt F)
        (Rect.unit (s := S4096x128) (k0_off1 c) S128x128.size (k0_off1_inb c)).toLoadRect (XB m c))) Finset.univ i = XG m c i := by
  have hs : ((xgM : Memref sig .tc .vmem S128x4096 .bf16).access (Rect.unit (s := S128x4096) (k0_off2 c) S128x128.size (k0_off2_inb c)) : View sig .tc _ _ _).set = (xgRect c).set :=
    (View.set_slice_whole _ _).trans (unit_set_congr (off2_eq c) _ _)
  rw [← hs] at hi
  obtain ⟨x, -, rfl⟩ := Finset.mem_map.mp hi
  rw [View.write_emb_of_mem _ _ (Finset.mem_univ x)]
  have hx0 : (x 0).val < 128 := (x 0).isLt
  have hx1 : (x 1).val < 128 := (x 1).isLt
  set i : S128x4096.Idx := ((xgM : Memref sig .tc .vmem S128x4096 .bf16).access (Rect.unit (s := S128x4096) (k0_off2 c) S128x128.size (k0_off2_inb c)) : View sig .tc _ _ _).emb x with hidef
  have e0 : (i 0).val = (x 0).val := by
    show k0_off2 c 0 + 1 * (x 0).val = _
    have h : k0_off2 c 0 = 0 := congrFun (off2_eq c) 0
    omega
  have e1 : (i 1).val = 128 * c.val + (x 1).val := by
    show k0_off2 c 1 + 1 * (x 1).val = _
    have h : k0_off2 c 1 = 128 * c.val := congrFun (off2_eq c) 1
    omega
  have hp : ∀ v : Vec F S128x128 .bf16, k0_pay2 v = v := fun v => shapeCast_self v _
  rw [hp]
  set i' : S4096x128.Idx := (Rect.unit (s := S4096x128) (k0_off1 c) S128x128.size (k0_off1_inb c)).emb x with hi'
  have f0 : (i' 0).val = 128 * c.val + (x 0).val := by
    show k0_off1 c 0 + 1 * (x 0).val = _
    have h : k0_off1 c 0 = 128 * c.val := congrFun (off1_eq c) 0
    omega
  have f1 : (i' 1).val = (x 1).val := by
    show k0_off1 c 1 + 1 * (x 1).val = _
    have h : k0_off1 c 1 = 0 := congrFun (off1_eq c) 1
    omega
  show XB m c i' = XG m c i
  unfold XG
  have hd : (⟨(i 1).val / 128, div128 (n := 4096) _ rfl⟩ : Dev nD) = c := by
    apply Fin.ext; show (i 1).val / 128 = c.val; rw [e1]; omega
  rw [hd]
  refine congrArg (XB m c) ((eq_ix2 i').trans (congrArg₂ ix2 (Fin.ext ?_) (Fin.ext ?_)))
  · rw [f0]; show _ = 128 * c.val + (i 0).val; rw [e0]
  · rw [f1]; show _ = (i 1).val % 128; rw [e1]; omega

/-- Device `c`'s maximum, landed in slot `c`. -/
theorem ag_landed_of (c : Dev nD) (A : S8x128.Idx → F .f32) (G : S32x8x128.Idx → F .f32)
    (hG : ∀ j : S32x8x128.Idx, j 0 = c → G j = A (ix2 (n0 := 8) (n1 := 128) (j 1) (j 2))) (fd : S32x8x128.Idx → F .f32) (i : S32x8x128.Idx) (hi : i ∈ (agRect c).set) :
    (agBlk c).view.write (Elt F) fd ((amM : Memref sig .tc .vmem S8x128 .f32).view.read (Elt F) A) Finset.univ i = G i := by
  rw [← agBlk_set] at hi
  obtain ⟨x, -, rfl⟩ := Finset.mem_map.mp hi
  rw [View.write_emb_of_mem _ _ (Finset.mem_univ x), View.read_apply]
  have he : ((agBlk c).view.emb x : S32x8x128.Idx) = (Rect.unit (s := S32x8x128) (k0_off6 c) S1x8x128.size (k0_off6_inb c)).emb (ix3 (⟨0, Nat.one_pos⟩ : Fin 1) (x 0) (x 1)) := by
    refine congrArg (Rect.unit (s := S32x8x128) (k0_off6 c) S1x8x128.size (k0_off6_inb c)).emb ?_
    exact (congrArg (Shape.reshapeEquiv _) (eq_ix2 x)).trans (reshapeEquiv_ix2_1ab _ (x 0) (x 1))
  have e0 : (((agBlk c).view.emb x : S32x8x128.Idx) 0) = c := by
    rw [he]; apply Fin.ext; show k0_off6 c 0 + 1 * 0 = _
    have h : k0_off6 c 0 = c.val := congrFun (off6_eq c) 0
    omega
  have e1 : (((agBlk c).view.emb x : S32x8x128.Idx) 1) = x 0 := by
    rw [he]; apply Fin.ext; show k0_off6 c 1 + 1 * (x 0).val = _
    have h : k0_off6 c 1 = 0 := congrFun (off6_eq c) 1
    omega
  have e2 : (((agBlk c).view.emb x : S32x8x128.Idx) 2) = x 1 := by
    rw [he]; apply Fin.ext; show k0_off6 c 2 + 1 * (x 1).val = _
    have h : k0_off6 c 2 = 0 := congrFun (off6_eq c) 2
    omega
  have key : ∀ j : S32x8x128.Idx, j 0 = c → j 1 = x 0 → j 2 = x 1 → A x = G j := by
    intro j h0 h1 h2; rw [hG j h0, h1, h2]; exact congrArg A (eq_ix2 x)
  exact key _ e0 e1 e2

/-- Device `c`'s maximum, transferred into slot `c` of any buffer, is there what the gathered maxima hold. -/
theorem ag_landed (c : Dev nD) (fd : S32x8x128.Idx → F .f32) (i : S32x8x128.Idx) (hi : i ∈ (agRect c).set) :
    (agBlk c).view.write (Elt F) fd ((amM : Memref sig .tc .vmem S8x128 .f32).view.read (Elt F) (AM m c)) Finset.univ i = AG m i :=
  ag_landed_of c (AM m c) (AG m) (fun j h => by unfold AG; rw [h]) fd i hi

/-- The device's own maximum, loaded back and stored in its own slot. -/
theorem ag_own_of (c : Dev nD) (w : S1x8x128.Idx → F .f32) (G : S32x8x128.Idx → F .f32)
    (hG : ∀ j : S32x8x128.Idx, j 0 = c → G j = w (ix3 (n0 := 1) (n1 := 8) (n2 := 128) 0 (j 1) (j 2))) (fd : S32x8x128.Idx → F .f32) (i : S32x8x128.Idx) (hi : i ∈ (agRect c).set) :
    ((agM : Memref sig .tc .vmem S32x8x128 .f32).access (Rect.unit (s := S32x8x128) (k0_off5 c) S1x8x128.size (k0_off5_inb c)) : View sig .tc _ _ _).write (Elt F) fd
      w Finset.univ i = G i := by
  have hs : ((agM : Memref sig .tc .vmem S32x8x128 .f32).access (Rect.unit (s := S32x8x128) (k0_off5 c) S1x8x128.size (k0_off5_inb c)) : View sig .tc _ _ _).set = (agRect c).set :=
    (View.set_slice_whole _ _).trans (unit_set_congr (off5_eq c) _ _)
  rw [← hs] at hi
  obtain ⟨x, -, rfl⟩ := Finset.mem_map.mp hi
  rw [View.write_emb_of_mem _ _ (Finset.mem_univ x)]
  set i : S32x8x128.Idx := ((agM : Memref sig .tc .vmem S32x8x128 .f32).access (Rect.unit (s := S32x8x128) (k0_off5 c) S1x8x128.size (k0_off5_inb c)) : View sig .tc _ _ _).emb x with hidef
  have hx0 : (x 0).val < 1 := (x 0).isLt
  have e0 : i 0 = c := by
    apply Fin.ext; show k0_off5 c 0 + 1 * (x 0).val = _
    have h : k0_off5 c 0 = c.val := congrFun (off5_eq c) 0
    omega
  have e1 : i 1 = x 1 := by
    apply Fin.ext; show k0_off5 c 1 + 1 * (x 1).val = _
    have h : k0_off5 c 1 = 0 := congrFun (off5_eq c) 1
    omega
  have e2 : i 2 = x 2 := by
    apply Fin.ext; show k0_off5 c 2 + 1 * (x 2).val = _
    have h : k0_off5 c 2 = 0 := congrFun (off5_eq c) 2
    omega
  have key : ∀ j : S32x8x128.Idx, j 0 = c → j 1 = x 1 → j 2 = x 2 → w x = G j := by
    intro j h0 h1 h2; rw [hG j h0, h1, h2]
    exact congrArg w ((eq_ix3 x).trans (congrArg (fun z => ix3 z (x 1) (x 2)) (Fin.ext (by show (x 0).val = 0; omega))))
  exact key _ e0 e1 e2

/-- Device `c`'s maximum, stored in slot `c` of its own buffer, is there what the gathered maxima hold. -/
theorem ag_own (c : Dev nD) (fd : S32x8x128.Idx → F .f32) (i : S32x8x128.Idx) (hi : i ∈ (agRect c).set) :
    ((agM : Memref sig .tc .vmem S32x8x128 .f32).access (Rect.unit (s := S32x8x128) (k0_off5 c) S1x8x128.size (k0_off5_inb c)) : View sig .tc _ _ _).write (Elt F) fd
      (k0_pay14 (AM m c)) Finset.univ i = AG m i :=
  ag_own_of c (k0_pay14 (AM m c)) (AG m) (fun j h => by
    have hp : ∀ v : Vec F S8x128 .f32, k0_pay14 v = shapeCast S1x8x128 v shapeCasts_S8x128_S1x8x128 := fun v => shapeCast_self _ _
    rw [hp]; unfold AG; rw [h]; exact (shapeCast_ab_1ab_apply (AM m c) _ _ _ _).symm) fd i hi

/-- Chunk `k`, landed in its slot. -/
theorem ws_landed (c : Dev nD) (k : Fin 8) (fd : S2x512x2048.Idx → F .f32) (i : S2x512x2048.Idx) (hi : i ∈ (wsRect (slotOf k)).set) :
    (wsBlk (slotOf k)).view.write (Elt F) fd ((wBlk k).view.read (Elt F) (Wm m c)) Finset.univ i = WS m c k i := by
  rw [← wsBlk_set] at hi
  obtain ⟨x, -, rfl⟩ := Finset.mem_map.mp hi
  rw [View.write_emb_of_mem _ _ (Finset.mem_univ x), View.read_apply]
  have hx0 : (x 0).val < 512 := (x 0).isLt
  have he : ((wsBlk (slotOf k)).view.emb x : S2x512x2048.Idx) = (wsRect (slotOf k)).emb (ix3 (⟨0, Nat.one_pos⟩ : Fin 1) (x 0) (x 1)) := by
    refine congrArg (wsRect (slotOf k)).emb ?_
    exact (congrArg (Shape.reshapeEquiv _) (eq_ix2 x)).trans (reshapeEquiv_ix2_1ab _ (x 0) (x 1))
  have e1 : (((wsBlk (slotOf k)).view.emb x : S2x512x2048.Idx) 1).val = (x 0).val := by
    rw [he]; show 0 + 1 * (x 0).val = _; omega
  have e2 : (((wsBlk (slotOf k)).view.emb x : S2x512x2048.Idx) 2) = x 1 := by
    rw [he]; apply Fin.ext; show 0 + 1 * (x 1).val = _; omega
  unfold WS
  refine congrArg (Wm m c) ((eq_ix2 ((wBlk k).view.emb x : S4096x2048.Idx)).trans (congrArg₂ ix2 (Fin.ext ?_) ?_))
  · show 512 * k.val + 1 * (x 0).val = 512 * k.val + _; rw [e1]; omega
  · rw [e2]; apply Fin.ext; show 0 + 1 * (x 1).val = _; omega

/-- Narrowing acts on each element alone. -/
theorem truncf_congr {s s' : Shape} (a : FVec F s .f32) (b : FVec F s' .f32) (x : s.Idx) (y : s'.Idx) (h : a x = b y) :
    truncf .bf16 a bitsLt_bf16_f32 x = truncf .bf16 b bitsLt_bf16_f32 y :=
  congrArg (fun z => truncf (F := F) (s := S8x128) .bf16 (fun _ => z) bitsLt_bf16_f32 (ix2 (n0 := 8) (n1 := 128) 0 0)) h

/-- A chunk read from its slot and narrowed, stored over the narrowed rows before it. -/
theorem wb_store (c : Dev nD) (k : Fin 8) (f : S4096x2048.Idx → F .bf16) (hf : ∀ i : S4096x2048.Idx, (i 0).val < 512 * k.val → f i = WB m c i)
    (i : S4096x2048.Idx) (hi : (i 0).val < 512 * (k.val + 1)) :
    ((wbM : Memref sig .tc .vmem S4096x2048 .bf16).access (wRect k) : View sig .tc _ _ _).write (Elt F) f
      (k0_pay3 ((wsM : Memref sig .tc .vmem S2x512x2048 .f32).view.readAt (Elt F) (wsRect (slotOf k)).toLoadRect (WS m c k))) Finset.univ i = WB m c i := by
  have hs : ((wbM : Memref sig .tc .vmem S4096x2048 .bf16).access (wRect k) : View sig .tc _ _ _).set = (wRect k).set := View.set_slice_whole _ _
  by_cases hm : i ∈ (wRect k).set
  · rw [← hs] at hm
    obtain ⟨x, -, rfl⟩ := Finset.mem_map.mp hm
    rw [View.write_emb_of_mem _ _ (Finset.mem_univ x)]
    have hp : ∀ v : Vec F S1x512x2048 .f32, k0_pay3 v = truncf .bf16 (shapeCast S512x2048 v shapeCasts_S1x512x2048_S512x2048) bitsLt_bf16_f32 := fun v => shapeCast_self _ _
    rw [hp]
    show truncf (F := F) (s := S512x2048) .bf16 _ bitsLt_bf16_f32 x = WB m c _
    unfold WB
    refine truncf_congr _ _ _ _ ?_
    refine (congrArg (shapeCast S512x2048 _ shapeCasts_S1x512x2048_S512x2048) (eq_ix2 x)).trans ?_
    refine (shapeCast_1ab_ab_apply _ shapeCasts_S1x512x2048_S512x2048 (x 0) (x 1)).trans ?_
    refine (congrArg (Wm m c) ((congrArg₂ ix2 (Fin.ext ?_) (Fin.ext ?_)).trans (eq_ix2 _).symm))
    · show 512 * k.val + (0 + 1 * (x 0).val) = 512 * k.val + 1 * (x 0).val; omega
    · show 0 + 1 * (x 1).val = 0 + 1 * (x 1).val; rfl
  · rw [View.write_of_not_mem _ _ _ (by rw [View.setOn_univ, hs]; exact hm)]
    apply hf
    by_contra hc
    apply hm
    rw [Rect.mem_set_unit]
    have h1 : (i 1).val < 2048 := (i 1).isLt
    intro a
    fin_cases a
    · show 512 * k.val ≤ (i 0).val ∧ (i 0).val < 512 * k.val + 512; omega
    · show 0 ≤ (i 1).val ∧ (i 1).val < 0 + 2048; omega

end Cert.KProof
-- ==== Proof.Protocol.lean ====
/-
# The protocol

The semaphore cells of a device, what each round of a cell hands to its owner, what every device owes at launch and at
which level, and the state a device's body starts from and ends in.
-/
module

public import proofs.«01_k».proof.Proof.Geometry

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-- The ghost state of the cells: their rounds, with thirty-one duty numbers. -/
abbrev UB : Type := URounds (GSem nD τ sig) (Fin 31)
/-- The ghost state of the run: the pipeline's and the cells'. -/
abbrev UU : Type := UR sig nD τ × UB

local notation "𝕄" => MT nD τ sig Unit (Elt F) ℕ UU ℕ

/-- Where the pipeline's ghost state lies. -/
abbrev EP : Emb (UR sig nD τ) (MT nD τ sig Unit (Elt F) ℕ UU ℕ) := embL
/-- Where the cells' ghost state lies. -/
abbrev ER : Emb UB (MT nD τ sig Unit (Elt F) ℕ UU ℕ) := embR

/-- No loop of the kernel needs a measure. -/
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- A device's cells: four families of thirty-one (row blocks sent, received; maxima sent, received), two for the chunks
    of the right operand, and the barrier. -/
abbrev CI : Type := (Fin 4 × Fin 31) ⊕ (Fin 2 ⊕ Unit)

set_option backward.proofsInPublic true in
/-- The semaphore of a cell. -/
def csem : CI → SemLoc sig
  | .inl (q, j) => .dma (⟨2 + 31 * q.val + j.val, by have := q.isLt; have := j.isLt; show _ < 128; omega⟩ : Fin 128)
  | .inr (.inl b) => .dma (⟨126 + b.val, by have := b.isLt; show _ < 128; omega⟩ : Fin 128)
  | .inr (.inr _) => .reg barS

/-- A cell of device `c`. -/
abbrev cell (c : Dev nD) (k : CI) : GSem nD τ sig := ((c : Thread nD τ), csem k)

set_option backward.proofsInPublic true in
/-- Which cell a semaphore is. -/
def cl : SemLoc sig → Option CI
  | .reg s => if s = barS then some (.inr (.inr ())) else none
  | .dma n => if h : 2 ≤ n.val ∧ n.val < 126 then
        some (.inl (⟨(n.val - 2) / 31, by omega⟩, ⟨(n.val - 2) % 31, Nat.mod_lt _ (by decide)⟩))
      else if h' : 126 ≤ n.val then some (.inr (.inl ⟨n.val - 126, by have h2 : n.val < 128 := n.isLt; omega⟩)) else none

/-- The cell of a cell's semaphore is that cell. -/
theorem cl_csem (k : CI) : cl (csem k) = some k := by revert k; decide +kernel

/-- Different cells have different semaphores. -/
theorem csem_inj {k k' : CI} (h : csem k = csem k') : k = k' := by
  have := congrArg cl h; rw [cl_csem, cl_csem] at this; exact Option.some.inj this

/-- The cell of the `j`-th row block sent. -/
abbrev kSnd (j : Fin 31) : CI := .inl (0, j)
/-- The cell of the `j`-th row block received. -/
abbrev kRcv (j : Fin 31) : CI := .inl (1, j)
/-- The cell of the `j`-th copy of the maximum sent. -/
abbrev kAsn (j : Fin 31) : CI := .inl (2, j)
/-- The cell of the `j`-th maximum received. -/
abbrev kArc (j : Fin 31) : CI := .inl (3, j)
/-- The cell of the chunks copied into slot `b`. -/
abbrev kW (b : Fin 2) : CI := .inr (.inl b)
/-- The barrier's cell. -/
abbrev kBar : CI := .inr (.inr ())

/-- The semaphore of the `j`-th row block sent is that of its cell. -/
theorem snd_eq (j : Fin 31) : SemLoc.dma (sndS j) = csem (kSnd j) := by revert j; decide +kernel
/-- The semaphore of the `j`-th row block received is that of its cell. -/
theorem rcv_eq (j : Fin 31) : SemLoc.dma (rcvS j) = csem (kRcv j) := by revert j; decide +kernel
/-- The semaphore of the `j`-th copy of the maximum sent is that of its cell. -/
theorem asn_eq (j : Fin 31) : SemLoc.dma (asnS j) = csem (kAsn j) := by revert j; decide +kernel
/-- The semaphore of the `j`-th maximum received is that of its cell. -/
theorem arc_eq (j : Fin 31) : SemLoc.dma (arcS j) = csem (kArc j) := by revert j; decide +kernel
/-- The semaphore of a slot's chunks is that of its cell. -/
theorem w_eq (b : Fin 2) : SemLoc.dma (wS b) = csem (kW b) := by revert b; decide +kernel
/-- The barrier semaphore is that of its cell. -/
theorem bar_eq : SemLoc.reg barS = csem kBar := rfl

/-! ## The credits -/

/-- The units a row block's transfer signals. -/
@[irreducible] def Nx : ℕ := (xgBlk 0).view.dmaCredit
/-- The units a maximum's transfer signals. -/
@[irreducible] def Na : ℕ := (agBlk 0).view.dmaCredit
/-- The units a chunk's copy signals. -/
@[irreducible] def Nw : ℕ := (wsBlk 0).view.dmaCredit

/-- Every column block written signals the same units. -/
theorem Nx_xg (c : Dev nD) : (xgBlk c).view.dmaCredit = Nx := by unfold Nx; rfl
/-- Every row block sent signals those units too. -/
theorem Nx_xb (c : Dev nD) (j : Fin 31) : (xbBlk c j).view.dmaCredit = Nx := by unfold Nx; rfl
/-- Every slot of the maxima written signals the same units. -/
theorem Na_ag (c : Dev nD) : (agBlk c).view.dmaCredit = Na := by unfold Na; rfl
/-- A maximum sent signals those units too. -/
theorem Na_am : (amM : Memref sig .tc .vmem S8x128 .f32).view.dmaCredit = Na := by unfold Na; rfl
/-- Both staging slots signal the same units. -/
theorem Nw_ws (b : Fin 2) : (wsBlk b).view.dmaCredit = Nw := by unfold Nw; rfl
/-- A row block's transfer signals some units. -/
theorem Nx_pos : 0 < Nx := by unfold Nx; exact View.dmaCredit_pos _ (by decide)
/-- A maximum's transfer signals some units. -/
theorem Na_pos : 0 < Na := by unfold Na; exact View.dmaCredit_pos _ (by decide)
/-- A chunk's copy signals some units. -/
theorem Nw_pos : 0 < Nw := by unfold Nw; exact View.dmaCredit_pos _ (by decide)

/-! ## The pieces handed over -/

/-- Row block `d` of device `p`'s narrowed columns. -/
def xbP (p d : Dev nD) (f : S4096x128.Idx → F .bf16) : sProp 𝕄 := ((p : Thread nD τ).loc cc0_scratch0) ↦[(xbRect d).set]{fullShare} f
/-- Column block `d` of device `p`'s gathered rows. -/
def xgP (p d : Dev nD) (f : S128x4096.Idx → F .bf16) : sProp 𝕄 := ((p : Thread nD τ).loc cc0_scratch3) ↦[(xgRect d).set]{fullShare} f
/-- Slot `d` of device `p`'s gathered maxima. -/
def agP (p d : Dev nD) (f : S32x8x128.Idx → F .f32) : sProp 𝕄 := ((p : Thread nD τ).loc cc0_scratch6) ↦[(agRect d).set]{fullShare} f
/-- A share of device `p`'s own maximum. -/
def amP (p : Dev nD) (q : PosShare TreeShare) (f : S8x128.Idx → F .f32) : sProp 𝕄 := ((p : Thread nD τ).loc cc0_scratch5) ↦{q} f
/-- Staging slot `b` of device `p`. -/
def wsP (p : Dev nD) (b : Fin 2) (f : S2x512x2048.Idx → F .f32) : sProp 𝕄 := ((p : Thread nD τ).loc cc0_scratch1) ↦[(wsRect b).set]{fullShare} f
/-- Chunk `k` of device `p`'s right operand. -/
def wP (p : Dev nD) (k : Fin 8) (f : S4096x2048.Idx → F .f32) : sProp 𝕄 := ((p : Thread nD τ).loc main_arg1) ↦[(wRect k).set]{fullShare} f

/-- A row block of the narrowed columns may be kept in an invariant. -/
instance xbP_storable (p d : Dev nD) (f) : BI.Storable (upEmb : UEmb _ 𝕄) (xbP (F := F) p d f) := by unfold xbP; infer_instance
/-- A column block of the gathered rows may be kept in an invariant. -/
instance xgP_storable (p d : Dev nD) (f) : BI.Storable (upEmb : UEmb _ 𝕄) (xgP (F := F) p d f) := by unfold xgP; infer_instance
/-- A slot of the gathered maxima may be kept in an invariant. -/
instance agP_storable (p d : Dev nD) (f) : BI.Storable (upEmb : UEmb _ 𝕄) (agP (F := F) p d f) := by unfold agP; infer_instance
/-- A share of a maximum may be kept in an invariant. -/
instance amP_storable (p : Dev nD) (q) (f) : BI.Storable (upEmb : UEmb _ 𝕄) (amP (F := F) p q f) := by unfold amP; infer_instance
/-- A staging slot may be kept in an invariant. -/
instance wsP_storable (p : Dev nD) (b) (f) : BI.Storable (upEmb : UEmb _ 𝕄) (wsP (F := F) p b f) := by unfold wsP; infer_instance
/-- A chunk of the right operand may be kept in an invariant. -/
instance wP_storable (p : Dev nD) (k) (f) : BI.Storable (upEmb : UEmb _ 𝕄) (wP (F := F) p k f) := by unfold wP; infer_instance

/-- The chunk slot `b` holds in round `r` of its cell. -/
def chunk (b : Fin 2) (r : ℕ) : Fin 8 := ⟨(2 * r + b.val) % 8, Nat.mod_lt _ (by decide)⟩

/-- What the `j`-th signal to device `c`'s barrier hands over: the block and the slot of the signalling device that `c` writes. -/
def barPay (c : Dev nD) (j : Fin 31) : sProp 𝕄 := iprop((∃ f, xgP (src c j) c f) ∗ (∃ f, agP (src c j) c f))

/-- What the units of a cell of device `c` hand over. -/
def payOf (c : Dev nD) : Option CI → ℕ → Fin 31 → sProp 𝕄
  | some (.inl (q, j)), _, _ =>
      if q = 0 then xbP c (tgt c j) (XB m c) else if q = 1 then xgP c (src c j) (XG m c)
      else if q = 2 then amP c (shareTok fullShare 31 j) (AM m c) else agP c (src c j) (AG m)
  | some (.inr (.inl b)), r, _ => iprop(wsP c b (WS m c (chunk b r)) ∗ wP c (chunk b r) (Wm m c))
  | some (.inr (.inr _)), _, j => barPay c j
  | none, _, _ => iprop(emp)

/-- The duties of a round of a cell. -/
def dutOf : Option CI → ℕ → Finset (Fin 31)
  | some (.inl _), r => if r = 0 then {0} else ∅
  | some (.inr (.inl _)), r => if r < 4 then {0} else ∅
  | some (.inr (.inr _)), r => if r = 0 then Finset.univ else ∅
  | none, _ => ∅

/-- The units of a duty of a cell. -/
def amtOf : Option CI → ℕ
  | some (.inl (q, _)) => if q.val < 2 then Nx else Na
  | some (.inr (.inl _)) => Nw
  | _ => 1

/-- Every duty has some units. -/
theorem amtOf_pos (k : Option CI) : 0 < amtOf k := by
  rcases k with _ | ⟨q, j⟩ | b | u
  · exact Nat.one_pos
  · unfold amtOf; dsimp only
    by_cases h : q.val < 2
    · rw [if_pos h]; exact Nx_pos
    · rw [if_neg h]; exact Na_pos
  · exact Nw_pos
  · exact Nat.one_pos

/-- The schedule of every cell. -/
def Rd : Rounds.Schedule (GSem nD τ sig) (Fin 31) 𝕄 where
  duties g r := dutOf (cl g.2) r
  unitless _ := False
  amount g _ _ := amtOf (cl g.2)
  payload g r d := payOf m g.1.1 (cl g.2) r d
  amount_pos g _ _ _ := amtOf_pos _

/-- Whatever a cell hands over may be kept in an invariant. -/
instance Rd_payload_storable (g : GSem nD τ sig) (r : ℕ) (d : Fin 31) :
    BI.Storable (upEmb : UEmb _ 𝕄) ((Rd (F := F) m).payload g r d) := by
  show BI.Storable upEmb (payOf m g.1.1 (cl g.2) r d)
  generalize cl g.2 = k
  rcases k with _ | ⟨q, j⟩ | b | u <;> unfold payOf <;> try unfold barPay
  · infer_instance
  · dsimp only; (repeat' split) <;> infer_instance
  · infer_instance
  · infer_instance

section Sched
variable (c : Dev nD)

/-- The duties of a cell, by its kind. -/
theorem Rd_duties (k : CI) (r : ℕ) : (Rd (F := F) m).duties (cell c k) r = dutOf (some k) r := congrArg (fun o => dutOf o r) (cl_csem k)
/-- The units of a cell's duty, by its kind. -/
theorem Rd_amount (k : CI) (r : ℕ) (d : Fin 31) : (Rd (F := F) m).amount (cell c k) r d = amtOf (some k) := congrArg amtOf (cl_csem k)
/-- What a cell hands over, by its kind. -/
theorem Rd_payload (k : CI) (r : ℕ) (d : Fin 31) : (Rd (F := F) m).payload (cell c k) r d = payOf m c (some k) r d :=
  congrArg (fun o => payOf m c o r d) (cl_csem k)

/-- A transfer's cell has one duty in its first round. -/
theorem duties_x (q : Fin 4) (j : Fin 31) : (Rd (F := F) m).duties (cell c (.inl (q, j))) 0 = {0} := by
  rw [Rd_duties]; rfl
/-- A slot's cell has one duty in each of its four rounds. -/
theorem duties_w (b : Fin 2) (r : ℕ) (hr : r < 4) : (Rd (F := F) m).duties (cell c (kW b)) r = {0} := by
  rw [Rd_duties]; exact if_pos hr
/-- The barrier's cell has thirty-one duties in its first round. -/
theorem duties_bar : (Rd (F := F) m).duties (cell c kBar) 0 = Finset.univ := by
  rw [Rd_duties]; rfl

/-- The round a cell is at when the run is over. -/
def last : CI → ℕ
  | .inr (.inl _) => 4
  | _ => 1

/-- Once the run is over a cell has no duties left. -/
theorem duties_later (k : CI) : ∀ r, last k ≤ r → (Rd (F := F) m).duties (cell c k) r = ∅ := by
  intro r hr
  rw [Rd_duties]
  rcases k with x | b | u
  · exact if_neg (by have : 1 ≤ r := hr; omega)
  · exact if_neg (by have : 4 ≤ r := hr; omega)
  · exact if_neg (by have : 1 ≤ r := hr; omega)

/-- The units of a row block sent. -/
theorem amount_snd (j : Fin 31) (r d) : (Rd (F := F) m).amount (cell c (kSnd j)) r d = Nx := by
  rw [Rd_amount]; rfl
/-- The units of a row block received. -/
theorem amount_rcv (j : Fin 31) (r d) : (Rd (F := F) m).amount (cell c (kRcv j)) r d = Nx := by
  rw [Rd_amount]; rfl
/-- The units of a maximum sent. -/
theorem amount_asn (j : Fin 31) (r d) : (Rd (F := F) m).amount (cell c (kAsn j)) r d = Na := by
  rw [Rd_amount]; rfl
/-- The units of a maximum received. -/
theorem amount_arc (j : Fin 31) (r d) : (Rd (F := F) m).amount (cell c (kArc j)) r d = Na := by
  rw [Rd_amount]; rfl
/-- The units of a chunk copied. -/
theorem amount_w (b : Fin 2) (r d) : (Rd (F := F) m).amount (cell c (kW b)) r d = Nw := by
  rw [Rd_amount]; rfl
/-- A barrier signal is one unit. -/
theorem amount_bar (r d) : (Rd (F := F) m).amount (cell c kBar) r d = 1 := by
  rw [Rd_amount]; rfl

/-- A round of one duty expects its amount. -/
theorem expect_one (g : GSem nD τ sig) (r : ℕ) (N : ℕ) (hd : (Rd (F := F) m).duties g r = {0}) (ha : (Rd (F := F) m).amount g r 0 = N) :
    (Rd (F := F) m).expect g r = N := by
  unfold Schedule.expect Schedule.amountOf; rw [hd, Finset.sum_singleton, ha]
/-- The barrier expects thirty-one units. -/
theorem expect_bar : (Rd (F := F) m).expect (cell c kBar) 0 = 31 := by
  unfold Schedule.expect Schedule.amountOf
  rw [duties_bar, Finset.sum_congr rfl fun d _ => amount_bar m c 0 d, Finset.sum_const, Finset.card_univ, Fintype.card_fin, smul_eq_mul]

/-- A row block sent comes back to its sender as it was. -/
theorem payload_snd (j : Fin 31) (r d) : (Rd (F := F) m).payload (cell c (kSnd j)) r d = xbP c (tgt c j) (XB m c) := by
  rw [Rd_payload]; rfl
/-- A row block received comes as the gathered rows hold it. -/
theorem payload_rcv (j : Fin 31) (r d) : (Rd (F := F) m).payload (cell c (kRcv j)) r d = xgP c (src c j) (XG m c) := by
  rw [Rd_payload]; rfl
/-- The share of the maximum lent to a transfer comes back. -/
theorem payload_asn (j : Fin 31) (r d) : (Rd (F := F) m).payload (cell c (kAsn j)) r d = amP c (shareTok fullShare 31 j) (AM m c) := by
  rw [Rd_payload]; rfl
/-- A maximum received comes as the gathered maxima hold it. -/
theorem payload_arc (j : Fin 31) (r d) : (Rd (F := F) m).payload (cell c (kArc j)) r d = agP c (src c j) (AG m) := by
  rw [Rd_payload]; rfl
/-- A chunk copied comes with its slot filled and its rows of the right operand back. -/
theorem payload_w (b : Fin 2) (r d) : (Rd (F := F) m).payload (cell c (kW b)) r d = iprop(wsP c b (WS m c (chunk b r)) ∗ wP c (chunk b r) (Wm m c)) := by
  rw [Rd_payload]; rfl
/-- A barrier signal hands over the signalling device's block and slot. -/
theorem payload_bar (r d) : (Rd (F := F) m).payload (cell c kBar) r d = barPay c d := by
  rw [Rd_payload]; rfl

/-- The rest of a round of one duty is its payload. -/
theorem rest_one (g : GSem nD τ sig) (r : ℕ) (hd : (Rd (F := F) m).duties g r = {0}) :
    bigSep ((Rd (F := F) m).duties g r \ ∅) (fun d => (Rd (F := F) m).payload g r d) = (Rd (F := F) m).payload g r 0 := by
  rw [Finset.sdiff_empty, hd, bigSep_singleton]
/-- What the barrier's round hands over is what every signal hands over. -/
theorem rest_bar : bigSep ((Rd (F := F) m).duties (cell c kBar) 0 \ ∅) (fun d => (Rd (F := F) m).payload (cell c kBar) 0 d) = bigSep Finset.univ (barPay (F := F) c) := by
  rw [Finset.sdiff_empty, duties_bar]; exact bigSep_congr fun d _ => payload_bar m c 0 d

end Sched

/-! ## What each core owes at launch; the levels -/

/-- Tallies added along a list, the first the last to be added. -/
def tal (f : Fin 31 → CellTallies nD τ sig Unit) (O : CellTallies nD τ sig Unit) : List (Fin 31) → CellTallies nD τ sig Unit
  | [] => O
  | j :: l => tal f O l + f j

/-- Where a tally along a list is positive, its base or one of its terms is. -/
theorem tal_pos {f : Fin 31 → CellTallies nD τ sig Unit} {O : CellTallies nD τ sig Unit} {g : GSem nD τ sig} {u : Unit} :
    ∀ {l : List (Fin 31)}, 0 < tal f O l g u → 0 < O g u ∨ ∃ j, 0 < f j g u
  | [], h => .inl h
  | j :: l, h => by
    have h' : 0 < tal f O l g u + f j g u := h
    rcases Nat.eq_zero_or_pos (f j g u) with h0 | h0
    · rw [h0, Nat.add_zero] at h'; exact tal_pos h'
    · exact .inr ⟨j, h0⟩

/-- A tally along a list without repeats is its base and the sum of its terms. -/
theorem tal_sum (f : Fin 31 → CellTallies nD τ sig Unit) (O : CellTallies nD τ sig Unit) :
    ∀ {l : List (Fin 31)}, l.Nodup → tal f O l = O + ∑ j ∈ l.toFinset, f j
  | [], _ => by simp [tal]
  | j :: l, h => by
    rw [tal, tal_sum f O (List.nodup_cons.mp h).2, List.toFinset_cons, Finset.sum_insert (by rw [List.mem_toFinset]; exact (List.nodup_cons.mp h).1)]
    rw [add_assoc, add_comm (f j)]

/-- The list of the thirty-one steps has no repeats. -/
theorem all31_nodup : all31.Nodup := by decide
/-- The list of the thirty-one steps has every step. -/
theorem all31_univ : all31.toFinset = Finset.univ := by decide

/-- Owed for the `j`-th signal. -/
abbrev fB (c : Dev nD) (j : Fin 31) : CellTallies nD τ sig Unit := tallyAt (cell (tgt c j) kBar) () 1
/-- Owed for the `j`-th row block. -/
abbrev fX (c : Dev nD) (j : Fin 31) : CellTallies nD τ sig Unit := tallyAt (cell (tgt c j) (kRcv j)) () Nx
/-- Owed for the `j`-th copy of the maximum. -/
abbrev fA (c : Dev nD) (j : Fin 31) : CellTallies nD τ sig Unit := tallyAt (cell (tgt c j) (kArc j)) () Na

/-- Owed when the maxima at the steps of a list are still to be sent. -/
def OA (c : Dev nD) (l : List (Fin 31)) : CellTallies nD τ sig Unit := tal (fA c) 0 l
/-- Owed when the row blocks at the steps of a list, and every maximum, are still to be sent. -/
def OX (c : Dev nD) (l : List (Fin 31)) : CellTallies nD τ sig Unit := tal (fX c) (OA c all31) l
/-- Owed when the signals at the steps of a list, and every transfer, are still to be made. -/
def OB (c : Dev nD) (l : List (Fin 31)) : CellTallies nD τ sig Unit := tal (fB c) (OX c all31) l
/-- Owed at launch. -/
def O₀ (c : Dev nD) : CellTallies nD τ sig Unit := OB c all31

/-- The cells that have a level: those of the TensorCores. -/
def L (g : GSem nD τ sig) : Finset Unit := if g.1.2 = .tc then {()} else ∅
/-- The level of a cell: the barrier below the row blocks' arrivals, these below the maxima's; all others at the bottom. -/
def lvOf : Option CI → ℕ
  | some (.inl (q, _)) => if q = 1 then 2 else if q = 3 then 3 else 0
  | some (.inr (.inr _)) => 1
  | _ => 0
/-- The level of a semaphore: that of its cell. -/
def lv (g : GSem nD τ sig) (_ : Unit) : ℕ := lvOf (cl g.2)

/-- A semaphore of no TensorCore has no level. -/
theorem L_of_ne (g : GSem nD τ sig) (h : g.1.2 ≠ .tc) : L g = ∅ := if_neg h
/-- A semaphore of a TensorCore has a level. -/
theorem L_tc (c : Dev nD) (sm : SemLoc sig) : L ((c : Thread nD τ), sm) = {()} := if_pos rfl
/-- The level of a cell, by its kind. -/
theorem lv_cell (c : Dev nD) (k : CI) (u : Unit) : lv (cell c k) u = lvOf (some k) := by show lvOf (cl (csem k)) = _; rw [cl_csem]

/-- A tally is positive only at its own cell. -/
theorem tallyAt_pos {g₀ g : GSem nD τ sig} {n : ℕ} {u : Unit} (h : 0 < tallyAt g₀ () n g u) : g = g₀ := by
  rw [tallyAt_apply] at h
  by_contra hn; rw [if_neg (fun h' => hn h'.1)] at h; exact Nat.lt_irrefl 0 h

/-- When only maxima are still to be sent, a device owes only at the cells of the maxima received. -/
theorem OA_pos {c : Dev nD} {l : List (Fin 31)} {g : GSem nD τ sig} {u : Unit} (h : 0 < OA c l g u) : ∃ j, g = cell (tgt c j) (kArc j) := by
  rcases tal_pos h with h | ⟨j, h⟩
  · exact absurd h (Nat.lt_irrefl 0)
  · exact ⟨j, tallyAt_pos h⟩
/-- When no signal is still to be made, a device owes only at the cells of maxima and row blocks received. -/
theorem OX_pos {c : Dev nD} {l : List (Fin 31)} {g : GSem nD τ sig} {u : Unit} (h : 0 < OX c l g u) :
    (∃ j, g = cell (tgt c j) (kArc j)) ∨ ∃ j, g = cell (tgt c j) (kRcv j) := by
  rcases tal_pos h with h | ⟨j, h⟩
  · exact .inl (OA_pos h)
  · exact .inr ⟨j, tallyAt_pos h⟩
/-- A device owes only at the cells of maxima and row blocks received and at barriers. -/
theorem OB_pos {c : Dev nD} {l : List (Fin 31)} {g : GSem nD τ sig} {u : Unit} (h : 0 < OB c l g u) :
    (∃ j, g = cell (tgt c j) (kArc j)) ∨ (∃ j, g = cell (tgt c j) (kRcv j)) ∨ ∃ j, g = cell (tgt c j) kBar := by
  rcases tal_pos h with h | ⟨j, h⟩
  · exact (OX_pos h).imp id .inl
  · exact .inr (.inr ⟨j, tallyAt_pos h⟩)

/-- A core may wait on a cell at a level below all those it owes to. -/
theorem mayWait (c : Dev nD) (sm : SemLoc sig) (n : ℕ) (hn : lvOf (cl sm) ≤ n) (O : CellTallies nD τ sig Unit)
    (hO : ∀ g u, 0 < O g u → ∃ d k, g = cell d k ∧ n < lvOf (some k)) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; exact hn)
    (fun g u hg => by obtain ⟨d, k, rfl, h⟩ := hO g u hg; rw [lv_cell]; exact h)

/-- With only maxima still to be sent, a device may wait for row blocks, chunks and the barrier. -/
theorem mayWait_OA (c : Dev nD) (k : CI) (hk : lvOf (some k) ≤ 2) (l : List (Fin 31)) :
    (levAts L lv : sProp 𝕄) ⊢ MayWait (c : Thread nD τ) (csem k) () (OA c l) :=
  mayWait c _ 2 (by rw [cl_csem]; exact hk) _ fun g u h => by
    obtain ⟨j, rfl⟩ := OA_pos h; exact ⟨_, _, rfl, by show 2 < 3; decide⟩
/-- With no signal still to be made, a device may wait on the barrier and for chunks. -/
theorem mayWait_OX (c : Dev nD) (k : CI) (hk : lvOf (some k) ≤ 1) (l : List (Fin 31)) :
    (levAts L lv : sProp 𝕄) ⊢ MayWait (c : Thread nD τ) (csem k) () (OX c l) :=
  mayWait c _ 1 (by rw [cl_csem]; exact hk) _ fun g u h => by
    rcases OX_pos h with ⟨j, rfl⟩ | ⟨j, rfl⟩
    · exact ⟨_, _, rfl, by show 1 < 3; decide⟩
    · exact ⟨_, _, rfl, by show 1 < 2; decide⟩
/-- At launch a device may wait on any semaphore at the bottom level. -/
theorem mayWait_O₀ (c : Dev nD) (sm : SemLoc sig) (hk : lvOf (cl sm) ≤ 0) :
    (levAts L lv : sProp 𝕄) ⊢ MayWait (c : Thread nD τ) sm () (O₀ c) :=
  mayWait c _ 0 hk _ fun g u h => by
    rcases OB_pos h with ⟨j, rfl⟩ | ⟨j, rfl⟩ | ⟨j, rfl⟩
    · exact ⟨_, _, rfl, by show 0 < 3; decide⟩
    · exact ⟨_, _, rfl, by show 0 < 2; decide⟩
    · exact ⟨_, _, rfl, by show 0 < 1; decide⟩

/-! ## The pipeline's proof data -/

/-- Every cell's invariant, and that every cell has reached round 0. -/
def recs (K : Dev nD × CI → ℕ) : sProp 𝕄 :=
  iprop(bigSep Finset.univ (fun dk : Dev nD × CI => cellInv ER (Rd m) (K dk) (cell dk.1 dk.2))
    ∗ bigSep Finset.univ (fun dk : Dev nD × CI => reached ER (cell dk.1 dk.2) 0))

/-- The records of the cells may be kept and used again. -/
instance recs_persistent (K : Dev nD × CI → ℕ) : BI.Persistent (recs m K) := by unfold recs; infer_instance

/-- The records hold every cell's invariant. -/
theorem recs_inv (K : Dev nD × CI → ℕ) (d : Dev nD) (k : CI) : recs m K ⊢ cellInv ER (Rd m) (K (d, k)) (cell d k) := by
  have h : bigSep Finset.univ (fun dk : Dev nD × CI => cellInv ER (Rd m) (K dk) (cell dk.1 dk.2)) ⊢ cellInv ER (Rd m) (K (d, k)) (cell d k) :=
    bigSep_elim (Finset.mem_univ (d, k))
  unfold recs; iintro ⟨H, -⟩; iapply h; iexact H
/-- The records hold that every cell has reached its first round. -/
theorem recs_reached (K : Dev nD × CI → ℕ) (d : Dev nD) (k : CI) : recs m K ⊢ reached ER (cell d k) 0 := by
  have h : bigSep Finset.univ (fun dk : Dev nD × CI => (reached ER (cell dk.1 dk.2) 0 : sProp 𝕄)) ⊢ reached ER (cell d k) 0 :=
    bigSep_elim (Finset.mem_univ (d, k))
  unfold recs; iintro ⟨-, H⟩; iapply h; iexact H

/-- A family over the thirty-one steps. -/
abbrev all (Φ : Fin 31 → sProp 𝕄) : sProp 𝕄 := bigSep Finset.univ Φ

/-- The duty tokens device `c` pays with. -/
def toks (c : Dev nD) : sProp 𝕄 :=
  iprop(all (fun j => dutyTok ER (cell (tgt c j) kBar) 0 j)
    ∗ all (fun j => dutyTok ER (cell c (kSnd j)) 0 0) ∗ all (fun j => dutyTok ER (cell (tgt c j) (kRcv j)) 0 0)
    ∗ all (fun j => dutyTok ER (cell c (kAsn j)) 0 0) ∗ all (fun j => dutyTok ER (cell (tgt c j) (kArc j)) 0 0)
    ∗ bigSep Finset.univ (fun k : Fin 8 => dutyTok ER (cell c (kW (slotOf k))) (k.val / 2) 0))

/-- Device `c`'s positions, at the first round of each of its cells. -/
def poss (c : Dev nD) : sProp 𝕄 := bigSep Finset.univ (fun k : CI => atPos ER (cell c k) 0 ∅ 0)

/-- The credits device `c` is dealt at launch. -/
def creds (c : Dev nD) : sProp 𝕄 :=
  iprop(cred (tallyAt (cell c kBar) () 31) ∗ all (fun j => cred (tallyAt (cell c (kRcv j)) () Nx))
    ∗ all (fun j => cred (tallyAt (cell c (kArc j)) () Na)))

/-- A whole buffer of a device. -/
abbrev pt (c : Dev nD) (b : Ref sig .tc) (f : Buf (Elt F) ((c : Thread nD τ).loc b)) : sProp 𝕄 := ((c : Thread nD τ).loc b) ↦{fullShare} f

/-- The scratch buffers of a device, at some contents. -/
def scr (c : Dev nD) : sProp 𝕄 :=
  iprop((∃ f, pt (F := F) c cc0_scratch0 f) ∗ (∃ f, pt (F := F) c cc0_scratch1 f) ∗ (∃ f, pt (F := F) c cc0_scratch2 f) ∗ (∃ f, pt (F := F) c cc0_scratch3 f)
    ∗ (∃ f, pt (F := F) c cc0_scratch4 f) ∗ (∃ f, pt (F := F) c cc0_scratch5 f) ∗ (∃ f, pt (F := F) c cc0_scratch6 f))

/-- The ghost state device `c`'s body starts from. -/
def ghost (K : Dev nD × CI → ℕ) (c : Dev nD) : sProp 𝕄 := iprop(recs m K ∗ poss c ∗ toks c)

/-- What device `c`'s body starts from, but for its scratch. -/
def start (c : Dev nD) : sProp 𝕄 := iprop((∃ K, ghost m K c) ∗ creds c ∗ levAts L lv ∗ pt c main_arg1 (Wm m c))

/-- What device `c`'s body starts from. -/
def Φ₀ (c : Dev nD) : sProp 𝕄 := iprop(start m c ∗ scr c)
/-- What it ends in: its scratch, every cell of its at zero, and the right operand as it was. -/
def Φ₁ (c : Dev nD) : sProp 𝕄 := iprop(scr c ∗ bigSep Finset.univ (fun k : CI => semVal (cell c k) 0) ∗ pt c main_arg1 (Wm m c))

/-- The grid has one step. -/
theorem cfg0_N : cfg0.N = 1 := by decide
/-- The one grid step. -/
def t₀ : Fin cfg0.N := ⟨0, by rw [cfg0_N]; decide⟩
/-- Every grid step is that one. -/
theorem fin_N (t : Fin cfg0.N) : t = t₀ := by
  obtain ⟨t, ht⟩ := t; have := cfg0_N; exact Fin.ext (by simp only [t₀]; omega)

/-- The pipeline's data on device `c`: the arrays at launch, what the body leaves in the staging buffers, the state before and after it, and what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A family over the windows is its two members. -/
theorem bigSep_W (Φ : Fin cfg0.W → sProp 𝕄) : bigSep Finset.univ Φ = iprop(Φ (0 : Fin 2) ∗ Φ (1 : Fin 2)) := bigSep_W0 Φ

/-- The columns' window is fetched in the grid step. -/
theorem fetch_0 (t : Fin cfg0.N) : (cfg0.win (0 : Fin 2)).fetch t = true := by rw [fin_N t]; rfl

/-- Owning a whole buffer at given contents, as a buffer with those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KProof
-- ==== Proof.Rules.lean ====
/-
# One rule per group of steps

For each group of the body's steps — the signals, the transfers, the waits — the rule that runs one step of it, and the
rule that runs a step over a list of indices from the rule for one.
-/
module

public import proofs.«01_k».proof.Proof.Protocol

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-- Device `c`'s weakest precondition. -/
abbrev WP (c : Dev nD) {α : Type} (p : TProg F α) (Q : α → sProp 𝕄) : sProp 𝕄 := wp frame (wpE (defs₀ (F := F)) 𝒱₀ (c : Thread nD τ) none) Set.univ p Q

/-! ## Lists of resources -/

/-- A family over a list, separately. -/
def sepL {ι : Type} (Φ : ι → sProp 𝕄) : List ι → sProp 𝕄
  | [] => iprop(emp)
  | j :: l => iprop(Φ j ∗ sepL Φ l)

/-- A family over a list without repeats is the same family, separately. -/
theorem sepL_eq {ι : Type} [DecidableEq ι] (Φ : ι → sProp 𝕄) : ∀ {l : List ι}, l.Nodup → bigSep l.toFinset Φ = sepL Φ l
  | [], _ => by rw [List.toFinset_nil]; exact bigSep_empty
  | j :: l, h => by
    rw [List.toFinset_cons, bigSep_insert (by rw [List.mem_toFinset]; exact (List.nodup_cons.mp h).1), sepL, sepL_eq Φ (List.nodup_cons.mp h).2]; rfl

/-- A family over the steps is the same family, separately. -/
theorem all_eq (Φ : Fin 31 → sProp 𝕄) : all Φ = sepL Φ all31 := by rw [← sepL_eq Φ all31_nodup, all31_univ]

/-- A step's rule, run over a list. -/
theorem wp_each {ι : Type} (c : Dev nD) {α : Type} (R : sProp 𝕄) [BI.Persistent R] (f : ι → TpuEff nD τ sig (Elt F) Λ₀ .tc PUnit) (Fr : List ι → sProp 𝕄)
    (Φ Ψ : ι → sProp 𝕄) (Q : α → sProp 𝕄)
    (hstep : ∀ j l (K : TProg F α), iprop(R ∗ Fr (j :: l) ∗ Φ j) ⊢ iprop(((Fr l ∗ Ψ j) -∗ WP c K Q) -∗ WP c (.op (f j) fun _ => K) Q)) :
    ∀ (l : List ι) (K : TProg F α), iprop(R ∗ Fr l ∗ sepL Φ l) ⊢ iprop(((Fr [] ∗ sepL Ψ l) -∗ WP c K Q) -∗ WP c (each f l K) Q)
  | [], K => by
    unfold sepL each
    iintro ⟨#HR, HF, HΦ⟩ Hk
    iapply Hk
    isplitl [HF] <;> iassumption
  | j :: l, K => by
    rw [sepL, sepL, each]
    iintro ⟨#HR, HF, HΦ, HL⟩ Hk
    iapply (hstep j l (each f l K)) $$ [HF HΦ]
    · isplitr; · iexact HR
      isplitl [HF] <;> iassumption
    iintro ⟨HF, HΨ⟩
    iapply (wp_each c R f Fr Φ Ψ Q hstep l K) $$ [HF HL]
    · isplitr; · iexact HR
      isplitl [HF] <;> iassumption
    iintro ⟨HF, HL⟩
    iapply Hk
    isplitl [HF]; · iexact HF
    isplitl [HΨ] <;> iassumption

/-- A step's rule, run over the thirty-one indices. -/
theorem wp_all (c : Dev nD) {α : Type} (R : sProp 𝕄) [BI.Persistent R] (f : Fin 31 → TpuEff nD τ sig (Elt F) Λ₀ .tc PUnit) (Fr : List (Fin 31) → sProp 𝕄)
    (Φ Ψ : Fin 31 → sProp 𝕄) (Q : α → sProp 𝕄)
    (hstep : ∀ j l (K : TProg F α), iprop(R ∗ Fr (j :: l) ∗ Φ j) ⊢ iprop(((Fr l ∗ Ψ j) -∗ WP c K Q) -∗ WP c (.op (f j) fun _ => K) Q)) (K : TProg F α) :
    iprop(R ∗ Fr all31 ∗ all Φ) ⊢ iprop(((Fr [] ∗ all Ψ) -∗ WP c K Q) -∗ WP c (each f all31 K) Q) := by
  rw [all_eq, all_eq]; exact wp_each c R f Fr Φ Ψ Q hstep all31 K

/-! ## The pieces, as the transfers name them -/

/-- A row block, as the transfer that sends it names it. -/
theorem xbP_eq (c : Dev nD) (j : Fin 31) (f : S4096x128.Idx → F .bf16) :
    xbP (F := F) c (tgt c j) f = iprop((xbBlk c j).view.loc (c : Thread nD τ) ↦[(xbBlk c j).view.set]{fullShare} f) := by
  unfold xbP; rw [xbBlk_set]
/-- A column block, as the transfer that writes it names it. -/
theorem xgP_eq (p c : Dev nD) (f : S128x4096.Idx → F .bf16) :
    xgP (F := F) p c f = iprop((xgBlk c).view.loc (p : Thread nD τ) ↦[(xgBlk c).view.set]{fullShare} f) := by
  unfold xgP; rw [xgBlk_set]
/-- A slot of the maxima, as the transfer that writes it names it. -/
theorem agP_eq (p c : Dev nD) (f : S32x8x128.Idx → F .f32) :
    agP (F := F) p c f = iprop((agBlk c).view.loc (p : Thread nD τ) ↦[(agBlk c).view.set]{fullShare} f) := by
  unfold agP; rw [agBlk_set]
/-- A share of a maximum, as the transfer that sends it names it. -/
theorem amP_eq (c : Dev nD) (q : PosShare TreeShare) (f : S8x128.Idx → F .f32) :
    amP (F := F) c q f = iprop((amM : Memref sig .tc .vmem S8x128 .f32).view.loc (c : Thread nD τ) ↦[(amM : Memref sig .tc .vmem S8x128 .f32).view.set]{q} f) := by
  unfold amP; rw [show (amM : Memref sig .tc .vmem S8x128 .f32).view.set = Finset.univ from View.set_whole _]
/-- A staging slot, as the copy that fills it names it. -/
theorem wsP_eq (c : Dev nD) (b : Fin 2) (f : S2x512x2048.Idx → F .f32) :
    wsP (F := F) c b f = iprop((wsBlk b).view.loc (c : Thread nD τ) ↦[(wsBlk b).view.set]{fullShare} f) := by
  unfold wsP; rw [wsBlk_set]
/-- A chunk, as the copy that reads it names it. -/
theorem wP_eq (c : Dev nD) (k : Fin 8) (f : S4096x2048.Idx → F .f32) :
    wP (F := F) c k f = iprop((wBlk k).view.loc (c : Thread nD τ) ↦[(wBlk k).view.set]{fullShare} f) := by
  unfold wP; rw [wBlk_set]

/-! ## The steps -/

section Steps
variable (K : Dev nD × CI → ℕ) (c : Dev nD)

/-- A core's debts, whatever waits are recorded. -/
def ow (c : Dev nD) (O : CellTallies nD τ sig Unit) : sProp 𝕄 := iprop(∃ W, owes (c : Thread nD τ) O W)

/-- One signal: its unit, with the block and the slot of this device's that the device addressed will write. -/
theorem step_sig {α : Type} {Q : α → sProp 𝕄} (j : Fin 31) (n : Dev nD) (hn : n = tgt c j) (O : CellTallies nD τ sig Unit) (k : PUnit → TProg F α) :
    iprop(recs m K ∗ ow c (O + fB c j) ∗ (dutyTok ER (cell (tgt c j) kBar) 0 j ∗ (∃ f, xgP c (tgt c j) f) ∗ (∃ f, agP c (tgt c j) f)))
      ⊢ iprop((ow c O -∗ WP c (k ⟨⟩) Q) -∗ WP c (.op (.semSignal (n : Thread nD τ) barS ((1 : ℕ) : ℤ)) k) Q) := by
  subst hn
  unfold ow
  iintro ⟨#HR, ⟨%W, HO⟩, Ht, Hp⟩ Hk
  ihave #HI := (recs_inv m K (tgt c j) kBar) $$ HR
  ihave #Hr := (recs_reached m K (tgt c j) kBar) $$ HR
  iapply (Rounds.wp_signal 𝒱₀ ER (Rd m) (c : Thread nD τ) none (dst := (tgt c j : Thread nD τ)) (sem := barS) (κ := K (tgt c j, kBar)) (r := 0)
      (d := j) (by show j ∈ (Rd m).duties (cell (tgt c j) kBar) 0; rw [duties_bar]; exact Finset.mem_univ _) (amount_bar m (tgt c j) 0 j) () O rfl) $$ [HO Ht Hp]
  · isplitr; · iexact HI
    isplitl [HO]; · iexact HO
    isplitl [Ht]; · iexact Ht
    isplitl [Hp]
    · rw [show (Rd m).payload ((tgt c j : Thread nD τ), SemLoc.reg barS) 0 j = barPay (tgt c j) j from payload_bar m (tgt c j) 0 j]; unfold barPay; rw [src_tgt]; iexact Hp
    iexact Hr
  iintro HO
  iapply Hk; iexists W; iexact HO

/-- A wait for a round of one duty: its payload, and the next round. -/
theorem step_wait {α : Type} {Q : α → sProp 𝕄} {w : TpuEff nD τ sig (Elt F) Λ₀ .tc PUnit} {sm : SemLoc sig} {N : ℕ}
    (hw : ∀ k : PUnit → sProp 𝕄, wpE (defs₀ (F := F)) 𝒱₀ (c : Thread nD τ) none Set.univ w k = waitSpec (c : Thread nD τ) Set.univ sm N k)
    (q : CI) (hsm : sm = csem q) (N' : ℕ) (hN : N = N') (r : ℕ) (hd : (Rd (F := F) m).duties (cell c q) r = {0}) (ha : (Rd (F := F) m).amount (cell c q) r 0 = N')
    (O : CellTallies nD τ sig Unit) (k : PUnit → TProg F α) :
    iprop(recs m K ∗ ow c O ∗ MayWait (c : Thread nD τ) (csem q) () O ∗ cred (tallyAt (cell c q) () N') ∗ atPos ER (cell c q) r ∅ 0)
      ⊢ iprop(((ow c O ∗ atPos ER (cell c q) (r + 1) ∅ 0 ∗ reached ER (cell c q) (r + 1) ∗ (Rd m).payload (cell c q) r 0) -∗ WP c (k ⟨⟩) Q)
        -∗ WP c (.op w k) Q) := by
  subst hsm; subst hN
  unfold ow
  iintro ⟨#HR, ⟨%W, HO⟩, Hm, Hc, Hat⟩ Hk
  ihave #HI := (recs_inv m K c q) $$ HR
  have hk : 0 + N = (Rd (F := F) m).expect (cell c q) r := by rw [Nat.zero_add]; exact (expect_one m (cell c q) r N hd ha).symm
  iapply (Rounds.wp_wait_rest_token 𝒱₀ ER (Rd m) (c : Thread nD τ) none (κ := K (c, q)) hw (Set.mem_univ _) () (O := O) (W := W) (R := r) (m := 0) (T := ∅) hk) $$ [HO Hm Hc Hat]
  · isplitr; · iexact HI
    isplitl [Hc]; · iexact Hc
    isplitl [HO]; · iexact HO
    isplitl [Hm]; · iexact Hm
    iexact Hat
  iintro ⟨HO, Hat, Hr, Hp⟩
  iapply Hk
  isplitl [HO]; · iexists _; iexact HO
  isplitl [Hat]; · iexact Hat
  isplitl [Hr]; · iexact Hr
  iapply (Entails.of_eq (rest_one m (cell c q) r hd)); iexact Hp

/-- The wait on the barrier: from every device that addresses this one, its block and its slot. -/
theorem step_bar {α : Type} {Q : α → sProp 𝕄} (O : CellTallies nD τ sig Unit) (k : PUnit → TProg F α) :
    iprop(recs m K ∗ ow c O ∗ MayWait (c : Thread nD τ) (csem kBar) () O ∗ cred (tallyAt (cell c kBar) () 31) ∗ atPos ER (cell c kBar) 0 ∅ 0)
      ⊢ iprop(((ow c O ∗ atPos ER (cell c kBar) 1 ∅ 0 ∗ all (barPay c)) -∗ WP c (k ⟨⟩) Q)
        -∗ WP c (.op (.semWait barS ((31 : ℕ) : ℤ)) k) Q) := by
  unfold ow
  iintro ⟨#HR, ⟨%W, HO⟩, Hm, Hc, Hat⟩ Hk
  ihave #HI := (recs_inv m K c kBar) $$ HR
  iapply (Rounds.wp_wait_rest_token 𝒱₀ ER (Rd m) (c : Thread nD τ) none (κ := K (c, kBar)) (wpE_semWait_eq 𝒱₀ (c : Thread nD τ) none Set.univ) (Set.mem_univ _) ()
      (O := O) (W := W) (R := 0) (m := 0) (T := ∅) (by rw [Nat.zero_add]; exact (expect_bar m c).symm)) $$ [HO Hm Hc Hat]
  · isplitr; · iexact HI
    isplitl [Hc]; · iexact Hc
    isplitl [HO]; · iexact HO
    isplitl [Hm]; · iexact Hm
    iexact Hat
  iintro ⟨HO, Hat, -, Hp⟩
  iapply Hk
  isplitl [HO]; · iexists _; iexact HO
  isplitl [Hat]; · iexact Hat
  iapply (Entails.of_eq (rest_bar m c)); iexact Hp

/-- One transfer of a row block to the device that owns the rows, its column block there handed back filled. -/
theorem step_send {α : Type} {Q : α → sProp 𝕄} (j : Fin 31) (n : Dev nD) (hn : n = tgt c j) {sS sR : SemLoc sig} (hS : sS = csem (kSnd j)) (hR : sR = csem (kRcv j))
    {hsc} {hsrc : (xbBlk c j).view.WordExact} {hdst : (xgBlk c).view.WordExact}
    {hsem : DmaTarget.Typed .vmem sR (.remote (Dev.tc n : Thread nD τ) (xgBlk c) sS hsc)} (O : CellTallies nD τ sig Unit) (k : PUnit → TProg F α) :
    iprop(recs m K ∗ ow c (O + fX c j) ∗ (dutyTok ER (cell c (kSnd j)) 0 0 ∗ dutyTok ER (cell (tgt c j) (kRcv j)) 0 0 ∗ xbP c (tgt c j) (XB m c) ∗ ∃ f, xgP (tgt c j) c f))
      ⊢ iprop(((ow c O ∗ cred (tallyAt (cell c (kSnd j)) () Nx)) -∗ WP c (k ⟨⟩) Q)
        -∗ WP c (.op (.enqueueDma (xbBlk c j) (.remote (Dev.tc n : Thread nD τ) (xgBlk c) sS hsc) sR hsrc hdst hsem) k) Q) := by
  subst hn; subst hS; subst hR
  unfold ow
  iintro ⟨#HR, ⟨%W, HO⟩, Ht1, Ht2, Hx, ⟨%fd, Hd⟩⟩ Hk
  ihave #HI1 := (recs_inv m K c (kSnd j)) $$ HR
  ihave #Hr1 := (recs_reached m K c (kSnd j)) $$ HR
  ihave #HI2 := (recs_inv m K (tgt c j) (kRcv j)) $$ HR
  ihave #Hr2 := (recs_reached m K (tgt c j) (kRcv j)) $$ HR
  ihave Hx := (Entails.of_eq (xbP_eq c j (XB m c))) $$ Hx
  ihave Hd := (Entails.of_eq (xgP_eq (tgt c j) c fd)) $$ Hd
  iapply (Rounds.wp_send_pointsTo 𝒱₀ ER (Rd m) (c : Thread nD τ) none (c' := (tgt c j : Thread nD τ)) (κ₁ := K (c, kSnd j)) (κ₂ := K (tgt c j, kRcv j))
      (src := xbBlk c j) (dst := xgBlk c) (sS := csem (kSnd j)) (sem := csem (kRcv j)) (fs := XB m c) (q := fullShare)
      (r₁ := 0) (r₂ := 0) (d₁ := 0) (d₂ := 0) (fd := fd)
      (by rw [duties_x]; exact Finset.mem_singleton_self _) (by rw [duties_x]; exact Finset.mem_singleton_self _)
      () () Nx (Nx_xg c) (amount_snd m c j 0 0) (amount_rcv m (tgt c j) j 0 0) O rfl (W := W)
      (by rw [payload_snd, xbP_eq])
      (by rw [payload_rcv, src_tgt]; rw [← xgP_eq]; unfold xgP; exact Entails.of_eq (pointsTo_congr fun i hi => xg_landed m c j fd i hi))) $$ [HO Ht1 Ht2 Hx Hd]
  · isplitr; · iexact HI1
    isplitr; · iexact HI2
    isplitl [Hx]; · iexact Hx
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-- One transfer of the maximum, its slot there handed back filled. -/
theorem step_asend {α : Type} {Q : α → sProp 𝕄} (j : Fin 31) (n : Dev nD) (hn : n = tgt c j) {sS sR : SemLoc sig} (hS : sS = csem (kAsn j)) (hR : sR = csem (kArc j))
    {hsc} {hsrc : (amM : Memref sig .tc .vmem S8x128 .f32).view.WordExact} {hdst : (agBlk c).view.WordExact}
    {hsem : DmaTarget.Typed .vmem sR (.remote (Dev.tc n : Thread nD τ) (agBlk c) sS hsc)} (O : CellTallies nD τ sig Unit) (k : PUnit → TProg F α) :
    iprop(recs m K ∗ ow c (O + fA c j) ∗ (dutyTok ER (cell c (kAsn j)) 0 0 ∗ dutyTok ER (cell (tgt c j) (kArc j)) 0 0
        ∗ amP c (shareTok fullShare 31 j) (AM m c) ∗ ∃ f, agP (tgt c j) c f))
      ⊢ iprop(((ow c O ∗ cred (tallyAt (cell c (kAsn j)) () Na)) -∗ WP c (k ⟨⟩) Q)
        -∗ WP c (.op (.enqueueDma (amM : Memref sig .tc .vmem S8x128 .f32) (.remote (Dev.tc n : Thread nD τ) (agBlk c) sS hsc) sR hsrc hdst hsem) k) Q) := by
  subst hn; subst hS; subst hR
  unfold ow
  iintro ⟨#HR, ⟨%W, HO⟩, Ht1, Ht2, Hx, ⟨%fd, Hd⟩⟩ Hk
  ihave #HI1 := (recs_inv m K c (kAsn j)) $$ HR
  ihave #Hr1 := (recs_reached m K c (kAsn j)) $$ HR
  ihave #HI2 := (recs_inv m K (tgt c j) (kArc j)) $$ HR
  ihave #Hr2 := (recs_reached m K (tgt c j) (kArc j)) $$ HR
  ihave Hx := (Entails.of_eq (amP_eq c (shareTok fullShare 31 j) (AM m c))) $$ Hx
  ihave Hd := (Entails.of_eq (agP_eq (tgt c j) c fd)) $$ Hd
  iapply (Rounds.wp_send_pointsTo 𝒱₀ ER (Rd m) (c : Thread nD τ) none (c' := (tgt c j : Thread nD τ)) (κ₁ := K (c, kAsn j)) (κ₂ := K (tgt c j, kArc j))
      (src := amM) (dst := agBlk c) (sS := csem (kAsn j)) (sem := csem (kArc j)) (fs := AM m c) (q := shareTok fullShare 31 j)
      (r₁ := 0) (r₂ := 0) (d₁ := 0) (d₂ := 0) (fd := fd)
      (by rw [duties_x]; exact Finset.mem_singleton_self _) (by rw [duties_x]; exact Finset.mem_singleton_self _)
      () () Na (Na_ag c) (amount_asn m c j 0 0) (amount_arc m (tgt c j) j 0 0) O rfl (W := W)
      (by rw [payload_asn, amP_eq])
      (by rw [payload_arc, src_tgt]; rw [← agP_eq]; unfold agP; exact Entails.of_eq (pointsTo_congr fun i hi => ag_landed m c fd i hi))) $$ [HO Ht1 Ht2 Hx Hd]
  · isplitr; · iexact HI1
    isplitr; · iexact HI2
    isplitl [Hx]; · iexact Hx
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-- One chunk's transfer into its slot, in round `r` of the slot's cell. -/
theorem step_wcopy {α : Type} {Q : α → sProp 𝕄} (k₀ : Fin 8) (r : ℕ) (hr : r < 4) (hk : chunk (slotOf k₀) r = k₀) {sS : SemLoc sig} (hS : sS = csem (kW (slotOf k₀)))
    {hsrc : (wBlk k₀).view.WordExact} {hdst : (wsBlk (slotOf k₀)).view.WordExact}
    {hsem : DmaTarget.Typed (nD := nD) (τ := τ) (p := .tc) .hbm sS (.here (wsBlk (slotOf k₀)))} (k : PUnit → TProg F α) :
    iprop(recs m K ∗ reached ER (cell c (kW (slotOf k₀))) r ∗ dutyTok ER (cell c (kW (slotOf k₀))) r 0 ∗ wP c k₀ (Wm m c) ∗ (∃ f, wsP c (slotOf k₀) f))
      ⊢ iprop((cred (tallyAt (cell c (kW (slotOf k₀))) () Nw) -∗ WP c (k ⟨⟩) Q)
        -∗ WP c (.op (.enqueueDma (wBlk k₀) (.here (wsBlk (slotOf k₀))) sS hsrc hdst hsem) k) Q) := by
  subst hS
  iintro ⟨#HR, Hr, Ht, Hx, ⟨%fd, Hd⟩⟩ Hk
  ihave #HI := (recs_inv m K c (kW (slotOf k₀))) $$ HR
  ihave Hx := (Entails.of_eq (wP_eq c k₀ (Wm m c))) $$ Hx
  ihave Hd := (Entails.of_eq (wsP_eq c (slotOf k₀) fd)) $$ Hd
  iapply (Rounds.wp_copy_pointsTo 𝒱₀ ER (Rd m) (c : Thread nD τ) none (κ := K (c, kW (slotOf k₀))) (r := r) (d := 0) (fd := fd)
      (src := wBlk k₀) (dst := wsBlk (slotOf k₀)) (sem := csem (kW (slotOf k₀))) (fs := Wm m c) (q := fullShare)
      (by rw [duties_w m c _ r hr]; exact Finset.mem_singleton_self _) () Nw (Nw_ws _) (amount_w m c _ r 0)
      (by rw [payload_w, hk, ← wsP_eq, ← wP_eq]; refine sep_mono_left ?_; unfold wsP; exact Entails.of_eq (pointsTo_congr fun i hi => ws_landed m c k₀ fd i hi))) $$ [Hr Ht Hx Hd]
  · isplitr; · iexact HI
    isplitl [Hx]; · iexact Hx
    isplitl [Hd]; · iexact Hd
    isplitl [Ht] <;> iassumption
  iexact Hk

end Steps

end Cert.KProof
-- ==== Proof.Parts.lean ====
/-
# The stretches between the transfers

The rules for the body's stretches of loads and stores — the columns narrowed, a chunk of the right operand narrowed, the
product, the maximum, the quantised result — and for the loop over the chunks.
-/
module

public import proofs.«01_k».proof.Proof.Rules

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The origin of two axes is zero on each. -/
theorem hz2 : (![0, 0] : Fin 2 → Nat) = fun _ => 0 := funext fun a => by fin_cases a <;> rfl
/-- The origin of three axes is zero on each. -/
theorem hz3 : (![0, 0, 0] : Fin 3 → Nat) = fun _ => 0 := funext fun a => by fin_cases a <;> rfl

/-! ## The columns narrowed -/

/-- A store over all of the narrowed columns leaves what was stored. -/
theorem xb_store (f : S4096x128.Idx → F .bf16) (w : S4096x128.Idx → F .bf16) :
    ((xbM : Memref sig .tc .vmem S4096x128 .bf16).access xRect : View sig .tc _ _ _).write (Elt F) f w Finset.univ = w :=
  Memref.write_access_unit_zero_univ (Elt F) cc0_scratch0 hz2 _ f w
/-- A read of all of the staged columns is their contents. -/
theorem x_read (f : S4096x128.Idx → F .f32) : (xM : Memref sig .tc .vmem S4096x128 .f32).view.readAt (Elt F) xRect.toLoadRect f = f :=
  Memref.readAt_unit_zero (Elt F) cc0_stg0_0 hz2 _ f
/-- The elements device `c` stores in its own gathered rows are those of column block `c`. -/
theorem xg_off2 (c : Dev nD) : ((xgM : Memref sig .tc .vmem S128x4096 .bf16).access (Rect.unit (s := S128x4096) (k0_off2 c) S128x128.size (k0_off2_inb c)) : View sig .tc _ _ _).set = (xgRect c).set :=
  (View.set_slice_whole _ _).trans (unit_set_congr (off2_eq c) _ _)

section
variable (c : Dev nD)

/-- The columns narrowed and the device's own block put in its place. -/
theorem part_cast {α : Type} {Q : α → sProp 𝕄} (K : TProg F α) :
    iprop(pt c cc0_stg0_0 (xstg m c) ∗ (∃ f, pt c cc0_scratch0 f) ∗ (∃ f, xgP c c f))
      ⊢ iprop(((pt c cc0_stg0_0 (xstg m c) ∗ pt c cc0_scratch0 (XB m c) ∗ xgP c c (XG m c)) -∗ WP c K Q) -∗ WP c (castP c K) Q) := by
  unfold castP
  iintro ⟨Hx, ⟨%f, Hb⟩, ⟨%g, Hg⟩⟩ Hk
  iapply (wp_load 𝒱₀ (c : Thread nD τ) none Set.univ (m := xM) (Finset.subset_univ _)) $$ Hx; iintro Hx
  rw [x_read]
  iapply (wp_load 𝒱₀ (c : Thread nD τ) none Set.univ (m := xbM) (Finset.subset_univ _)) $$ Hb; iintro Hb
  iapply (wp_store 𝒱₀ (c : Thread nD τ) none Set.univ (m := xbM) (r := xRect) (Mk := Finset.univ) (Finset.subset_univ _)) $$ Hb; iintro Hb
  rw [xb_store]
  iapply (wp_load 𝒱₀ (c : Thread nD τ) none Set.univ (m := xbM) (Finset.subset_univ _)) $$ Hb; iintro Hb
  unfold xgP
  iapply (wp_load_rect 𝒱₀ (c : Thread nD τ) none Set.univ (m := xgM) (r := (Rect.unit (s := S128x4096) (k0_off2 c) S128x128.size (k0_off2_inb c))) (S := (xgRect c).set) (xg_off2 c).subset) $$ Hg; iintro Hg
  iapply (wp_store 𝒱₀ (c : Thread nD τ) none Set.univ (m := xgM) (r := (Rect.unit (s := S128x4096) (k0_off2 c) S128x128.size (k0_off2_inb c))) (S := (xgRect c).set) (Mk := Finset.univ) ((View.setOn_univ _).trans (xg_off2 c)).subset) $$ Hg; iintro Hg
  iapply Hk
  isplitl [Hx]; · iexact Hx
  isplitl [Hb]; · iexact Hb
  iapply (Entails.of_eq (pointsTo_congr fun i hi => xg_own m c g i hi)); iexact Hg

/-! ## A chunk narrowed -/

/-- The elements read of a staging slot are those of the slot. -/
theorem ws_set (b : Fin 2) : ((wsM : Memref sig .tc .vmem S2x512x2048 .f32).access (wsRect b) : View sig .tc _ _ _).set = (wsRect b).set := View.set_slice_whole _ _

/-- A chunk in its slot narrowed over the rows before it. -/
theorem part_chunk {α : Type} {Q : α → sProp 𝕄} (k : Fin 8) (K : TProg F α) :
    iprop(wsP c (slotOf k) (WS m c k) ∗ (∃ f : S4096x2048.Idx → F .bf16, ⌜∀ i : S4096x2048.Idx, (i 0).val < 512 * k.val → f i = WB m c i⌝ ∗ pt c cc0_scratch2 f))
      ⊢ iprop(((wsP c (slotOf k) (WS m c k)
          ∗ (∃ f : S4096x2048.Idx → F .bf16, ⌜∀ i : S4096x2048.Idx, (i 0).val < 512 * (k.val + 1) → f i = WB m c i⌝ ∗ pt c cc0_scratch2 f)) -∗ WP c K Q) -∗ WP c (wstep k K) Q) := by
  unfold wstep wsP
  iintro ⟨Hs, ⟨%f, %hf, Hb⟩⟩ Hk
  iapply (wp_load_rect 𝒱₀ (c : Thread nD τ) none Set.univ (m := wsM) (r := (wsRect (slotOf k))) (S := (wsRect (slotOf k)).set) (ws_set (slotOf k)).subset) $$ Hs; iintro Hs
  iapply (wp_load 𝒱₀ (c : Thread nD τ) none Set.univ (m := wbM) (Finset.subset_univ _)) $$ Hb; iintro Hb
  iapply (wp_store 𝒱₀ (c : Thread nD τ) none Set.univ (m := wbM) (r := wRect k) (Mk := Finset.univ) (Finset.subset_univ _)) $$ Hb; iintro Hb
  iapply Hk
  isplitl [Hs]; · iexact Hs
  iexists _
  isplitr
  rotate_left
  · iexact Hb
  · ipureintro; exact fun i hi => wb_store m c k f hf i hi

/-! ## The product, the maximum, the result -/

/-- A read of all of the gathered rows is their contents. -/
theorem xg_read (f : S128x4096.Idx → F .bf16) :
    (xgM : Memref sig .tc .vmem S128x4096 .bf16).view.readAt (Elt F) (Rect.unit (s := S128x4096) ![0, 0] S128x4096.size inb_S128x4096_S128x4096_0_0).toLoadRect f = f :=
  Memref.readAt_unit_zero (Elt F) cc0_scratch3 hz2 _ f
/-- A read of all of the narrowed right operand is its contents. -/
theorem wb_read (f : S4096x2048.Idx → F .bf16) :
    (wbM : Memref sig .tc .vmem S4096x2048 .bf16).view.readAt (Elt F) (Rect.unit (s := S4096x2048) ![0, 0] S4096x2048.size inb_S4096x2048_S4096x2048_0_0).toLoadRect f = f :=
  Memref.readAt_unit_zero (Elt F) cc0_scratch2 hz2 _ f
/-- A store over all of the product leaves what was stored. -/
theorem y_store (f w : S128x2048.Idx → F .f32) : ((yM : Memref sig .tc .vmem S128x2048 .f32).access oRect : View sig .tc _ _ _).write (Elt F) f w Finset.univ = w :=
  Memref.write_access_unit_zero_univ (Elt F) cc0_scratch4 hz2 _ f w
/-- A read of all of the product is its contents. -/
theorem y_read (f : S128x2048.Idx → F .f32) : (yM : Memref sig .tc .vmem S128x2048 .f32).view.readAt (Elt F) oRect.toLoadRect f = f :=
  Memref.readAt_unit_zero (Elt F) cc0_scratch4 hz2 _ f
/-- A store over all of the result leaves what was stored. -/
theorem o_store (f w : S128x2048.Idx → F .f32) : ((oM : Memref sig .tc .vmem S128x2048 .f32).access oRect : View sig .tc _ _ _).write (Elt F) f w Finset.univ = w :=
  Memref.write_access_unit_zero_univ (Elt F) cc0_stg1_0 hz2 _ f w
/-- A store over all of a device's own maximum leaves what was stored. -/
theorem am_store (f w : S8x128.Idx → F .f32) : ((amM : Memref sig .tc .vmem S8x128 .f32).access aRect : View sig .tc _ _ _).write (Elt F) f w Finset.univ = w :=
  Memref.write_access_unit_zero_univ (Elt F) cc0_scratch5 hz2 _ f w
/-- A read of all of a device's own maximum is its contents. -/
theorem am_read (f : S8x128.Idx → F .f32) : (amM : Memref sig .tc .vmem S8x128 .f32).view.readAt (Elt F) aRect.toLoadRect f = f :=
  Memref.readAt_unit_zero (Elt F) cc0_scratch5 hz2 _ f
/-- A read of all of the gathered maxima is their contents. -/
theorem ag_read (f : S32x8x128.Idx → F .f32) :
    (agM : Memref sig .tc .vmem S32x8x128 .f32).view.readAt (Elt F) (Rect.unit (s := S32x8x128) ![0, 0, 0] S32x8x128.size inb_S32x8x128_S32x8x128_0_0_0).toLoadRect f = f :=
  Memref.readAt_unit_zero (Elt F) cc0_scratch6 hz3 _ f
/-- The elements device `c` stores in its own gathered maxima are those of slot `c`. -/
theorem ag_off5 (c : Dev nD) : ((agM : Memref sig .tc .vmem S32x8x128 .f32).access (Rect.unit (s := S32x8x128) (k0_off5 c) S1x8x128.size (k0_off5_inb c)) : View sig .tc _ _ _).set = (agRect c).set :=
  (View.set_slice_whole _ _).trans (unit_set_congr (off5_eq c) _ _)

/-- The product. -/
theorem part_dot {α : Type} {Q : α → sProp 𝕄} (v : S128x4096.Idx → F .bf16) (w : S4096x2048.Idx → F .bf16) (K : FVec F S128x2048 .f32 → TProg F α) :
    iprop(pt c cc0_scratch3 v ∗ pt c cc0_scratch2 w ∗ (∃ f, pt c cc0_scratch4 f))
      ⊢ iprop(((pt c cc0_scratch3 v ∗ pt c cc0_scratch2 w ∗ pt c cc0_scratch4 (k0_pay12 v w)) -∗ WP c (K (k0_pay11 v w)) Q) -∗ WP c (dotP K) Q) := by
  unfold dotP
  iintro ⟨Hv, Hw, ⟨%f, Hy⟩⟩ Hk
  iapply (wp_load 𝒱₀ (c : Thread nD τ) none Set.univ (m := xgM) (Finset.subset_univ _)) $$ Hv; iintro Hv
  rw [xg_read]
  iapply (wp_load 𝒱₀ (c : Thread nD τ) none Set.univ (m := wbM) (Finset.subset_univ _)) $$ Hw; iintro Hw
  rw [wb_read]
  iapply (wp_load 𝒱₀ (c : Thread nD τ) none Set.univ (m := yM) (Finset.subset_univ _)) $$ Hy; iintro Hy
  iapply (wp_store 𝒱₀ (c : Thread nD τ) none Set.univ (m := yM) (r := oRect) (Mk := Finset.univ) (Finset.subset_univ _)) $$ Hy; iintro Hy
  rw [y_store]
  iapply Hk
  isplitl [Hv]; · iexact Hv
  isplitl [Hw] <;> iassumption

/-- The maximum, and its copy in the device's own slot. -/
theorem part_amax {α : Type} {Q : α → sProp 𝕄} (K : TProg F α) :
    iprop((∃ f, pt c cc0_scratch5 f) ∗ (∃ f, agP c c f))
      ⊢ iprop(((pt c cc0_scratch5 (AM m c) ∗ agP c c (AG m)) -∗ WP c K Q) -∗ WP c (amaxP c (k0_pay11 (XG m c) (WB m c)) K) Q) := by
  unfold amaxP
  iintro ⟨⟨%f, Ha⟩, ⟨%g, Hg⟩⟩ Hk
  iapply (wp_load 𝒱₀ (c : Thread nD τ) none Set.univ (m := amM) (Finset.subset_univ _)) $$ Ha; iintro Ha
  iapply (wp_store 𝒱₀ (c : Thread nD τ) none Set.univ (m := amM) (r := aRect) (Mk := Finset.univ) (Finset.subset_univ _)) $$ Ha; iintro Ha
  rw [am_store]
  iapply (wp_load 𝒱₀ (c : Thread nD τ) none Set.univ (m := amM) (Finset.subset_univ _)) $$ Ha; iintro Ha
  rw [am_read]
  rw [show k0_pay13 (k0_pay11 (XG m c) (WB m c)) = AM m c from rfl]
  unfold agP
  iapply (wp_load_rect 𝒱₀ (c : Thread nD τ) none Set.univ (m := agM) (r := (Rect.unit (s := S32x8x128) (k0_off5 c) S1x8x128.size (k0_off5_inb c))) (S := (agRect c).set) (ag_off5 c).subset) $$ Hg; iintro Hg
  iapply (wp_store 𝒱₀ (c : Thread nD τ) none Set.univ (m := agM) (r := (Rect.unit (s := S32x8x128) (k0_off5 c) S1x8x128.size (k0_off5_inb c))) (S := (agRect c).set) (Mk := Finset.univ) ((View.setOn_univ _).trans (ag_off5 c)).subset) $$ Hg; iintro Hg
  iapply Hk
  isplitl [Ha]; · iexact Ha
  iapply (Entails.of_eq (pointsTo_congr fun i hi => ag_own m c g i hi)); iexact Hg

/-- The result. -/
theorem part_quant {α : Type} {Q : α → sProp 𝕄} (a : S32x8x128.Idx → F .f32) (y : S128x2048.Idx → F .f32) (K : TProg F α) :
    iprop(pt c cc0_scratch6 a ∗ pt c cc0_scratch4 y ∗ (∃ f, pt c cc0_stg1_0 f))
      ⊢ iprop(((pt c cc0_scratch6 a ∗ pt c cc0_scratch4 y ∗ pt c cc0_stg1_0 (k0_pay15 a y)) -∗ WP c K Q) -∗ WP c (quantP K) Q) := by
  unfold quantP
  iintro ⟨Ha, Hy, ⟨%f, Ho⟩⟩ Hk
  iapply (wp_load 𝒱₀ (c : Thread nD τ) none Set.univ (m := agM) (Finset.subset_univ _)) $$ Ha; iintro Ha
  rw [ag_read]
  iapply (wp_load 𝒱₀ (c : Thread nD τ) none Set.univ (m := yM) (Finset.subset_univ _)) $$ Hy; iintro Hy
  rw [y_read]
  iapply (wp_load 𝒱₀ (c : Thread nD τ) none Set.univ (m := oM) (Finset.subset_univ _)) $$ Ho; iintro Ho
  iapply (wp_store 𝒱₀ (c : Thread nD τ) none Set.univ (m := oM) (r := oRect) (Mk := Finset.univ) (Finset.subset_univ _)) $$ Ho; iintro Ho
  rw [o_store]
  iapply Hk
  isplitl [Ha]; · iexact Ha
  isplitl [Hy] <;> iassumption

end

end Cert.KProof
-- ==== Proof.Chunks.lean ====
/-
# The loop over the right operand's chunks

One chunk is in flight at a time, in one of two slots: when it has arrived the next is started in the other slot, and the
one that arrived is narrowed.
-/
module

public import proofs.«01_k».proof.Proof.Parts

@[expose] public section

noncomputable section

namespace Cert.KProof

open Cert.KernelIdeal Cert.KernelIdeal.Gen
open Idealize.ShloMosaic
open Idealize.ShloMosaic.TcCoe
open Idealize.ShloMosaic.Ring (lead_disjoint lead_cover)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The slots and the chunks -/

/-- Different staging slots do not overlap. -/
theorem ws_disj (b b' : Fin 2) (h : b ≠ b') : Disjoint (wsRect b).set (wsRect b').set :=
  lead_disjoint (s := S2x512x2048) (NB := 2) (0 : Fin 3) 1 (fun b => ![b.val, 0, 0]) S1x512x2048.size inbWs (fun b => (Nat.one_mul _).symm) rfl b b' h
/-- The two staging slots cover the staging buffer. -/
theorem ws_cover : Finset.univ.biUnion (fun b : Fin 2 => (wsRect b).set) = Finset.univ :=
  lead_cover (s := S2x512x2048) (NB := 2) (0 : Fin 3) 1 (fun b => ![b.val, 0, 0]) S1x512x2048.size inbWs (fun b => (Nat.one_mul _).symm)
    (fun _ a ha => by fin_cases a; · exact absurd rfl ha
                      · rfl
                      · rfl) rfl (fun a ha => by fin_cases a; · exact absurd rfl ha
                                                 · rfl
                                                 · rfl) rfl
/-- Different chunks of the right operand do not overlap. -/
theorem w_disj (k k' : Fin 8) (h : k ≠ k') : Disjoint (wRect k).set (wRect k').set :=
  lead_disjoint (s := S4096x2048) (NB := 8) (0 : Fin 2) 512 (fun k => ![512 * k.val, 0]) S512x2048.size inbW (fun _ => rfl) rfl k k' h
/-- The eight chunks cover the right operand. -/
theorem w_cover : Finset.univ.biUnion (fun k : Fin 8 => (wRect k).set) = Finset.univ :=
  lead_cover (s := S4096x2048) (NB := 8) (0 : Fin 2) 512 (fun k => ![512 * k.val, 0]) S512x2048.size inbW (fun _ => rfl)
    (fun _ a ha => by fin_cases a; · exact absurd rfl ha
                      · rfl) rfl (fun a ha => by fin_cases a; · exact absurd rfl ha
                                                 · rfl) rfl

/-- The right operand whole is its chunks. -/
theorem w_blocks (c : Dev nD) (f : S4096x2048.Idx → F .f32) : pt (F := F) c main_arg1 f = bigSep Finset.univ (fun k => wP c k f) := by
  unfold wP
  exact Ring.pointsTo_blocks (Ix := Unit) (Name := ℕ) (U := UU) (Lvl := ℕ) (Val := Elt F) (ℓ := (c : Thread nD τ).loc main_arg1) (q := fullShare)
    (fun k => (wRect k).set) w_disj w_cover f
/-- The staging buffer whole is its slots. -/
theorem ws_blocks (c : Dev nD) (f : S2x512x2048.Idx → F .f32) : pt (F := F) c cc0_scratch1 f = bigSep Finset.univ (fun b => wsP c b f) := by
  unfold wsP
  exact Ring.pointsTo_blocks (Ix := Unit) (Name := ℕ) (U := UU) (Lvl := ℕ) (Val := Elt F) (ℓ := (c : Thread nD τ).loc cc0_scratch1) (q := fullShare)
    (fun b => (wsRect b).set) ws_disj ws_cover f
/-- The slots, at any contents, are the staging buffer at some. -/
theorem ws_join (c : Dev nD) (f₀ : S2x512x2048.Idx → F .f32) :
    bigSep Finset.univ (fun b => iprop(∃ f, wsP (F := F) c b f)) ⊢ iprop(∃ f, pt (F := F) c cc0_scratch1 f) := by
  unfold wsP
  exact Ring.pointsTo_blocks_join_exists (Ix := Unit) (Name := ℕ) (U := UU) (Lvl := ℕ) (Val := Elt F) (ℓ := (c : Thread nD τ).loc cc0_scratch1) (q := fullShare)
    (fun b => (wsRect b).set) ws_disj ws_cover f₀

/-! ## The loop -/

section
variable (K : Dev nD × CI → ℕ) (c : Dev nD)

/-- The slot of the `n`-th chunk. -/
abbrev sl (n : ℕ) : Fin 2 := ⟨n % 2, Nat.mod_lt _ (by decide)⟩

/-- The `n`-th chunk is the one its slot holds in round `n / 2`. -/
theorem chunk_sl (n : ℕ) (h : n < 8) : chunk (sl n) (n / 2) = ⟨n, h⟩ := by
  apply Fin.ext; show (2 * (n / 2) + n % 2) % 8 = n; omega

/-- The narrowed right operand, filled below row `512 * n`. -/
def wbTo (n : ℕ) : sProp 𝕄 := iprop(∃ f : S4096x2048.Idx → F .bf16, ⌜∀ i : S4096x2048.Idx, (i 0).val < 512 * n → f i = WB m c i⌝ ∗ pt c cc0_scratch2 f)

/-- The loop before chunk `n` has arrived. -/
def WI (n : ℕ) : sProp 𝕄 :=
  iprop(ow c (OA c all31) ∗ cred (tallyAt (cell c (kW (sl n))) () Nw) ∗ atPos ER (cell c (kW (sl n))) (n / 2) ∅ 0
    ∗ atPos ER (cell c (kW (sl (n + 1)))) ((n + 1) / 2) ∅ 0 ∗ reached ER (cell c (kW (sl (n + 1)))) ((n + 1) / 2)
    ∗ (∃ f, wsP c (sl (n + 1)) f) ∗ wbTo m c n)

/-- The wait for chunk `n`. -/
theorem chunk_wait {α : Type} {Q : α → sProp 𝕄} (n : ℕ) (h : n < 8) (k : PUnit → TProg F α) :
    iprop((recs m K ∗ levAts L lv) ∗ ow c (OA c all31) ∗ cred (tallyAt (cell c (kW (sl n))) () Nw) ∗ atPos ER (cell c (kW (sl n))) (n / 2) ∅ 0)
      ⊢ iprop(((ow c (OA c all31) ∗ atPos ER (cell c (kW (sl n))) (n / 2 + 1) ∅ 0 ∗ reached ER (cell c (kW (sl n))) (n / 2 + 1)
          ∗ wsP c (sl n) (WS m c ⟨n, h⟩) ∗ wP c ⟨n, h⟩ (Wm m c)) -∗ WP c (k ⟨⟩) Q)
        -∗ WP c (.op (wwaitE ⟨n, h⟩) k) Q) := by
  iintro ⟨⟨#HR, #HL⟩, HO, Hc, Hat⟩ Hk
  iapply (step_wait m K c (wpE_waitDma2_eq 𝒱₀ (c : Thread nD τ) none Set.univ) (kW (sl n)) (w_eq (sl n)) Nw (Nw_ws (sl n)) (n / 2)
    (duties_w m c (sl n) (n / 2) (by omega)) (amount_w m c (sl n) (n / 2) 0) (OA c all31)) $$ [HO Hc Hat]
  · isplitr; · iexact HR
    isplitl [HO]; · iexact HO
    isplitr; · iapply (mayWait_OA (F := F) c (kW (sl n)) (Nat.zero_le 2) all31); iexact HL
    isplitl [Hc] <;> iassumption
  iintro ⟨HO, Hat, Hr, Hp⟩
  ihave Hp := (Entails.of_eq (payload_w m c (sl n) (n / 2) 0)) $$ Hp
  rw [chunk_sl n h]
  iapply Hk
  isplitl [HO]; · iexact HO
  isplitl [Hat]; · iexact Hat
  isplitl [Hr] <;> iassumption

/-- One turn of the loop: chunk `n` arrives, the next is started, and chunk `n` is narrowed. -/
theorem chunk_turn {α : Type} {Q : α → sProp 𝕄} (k k' : Fin 8) (hk : k'.val = k.val + 1) (P : TProg F α) :
    iprop((recs m K ∗ levAts L lv) ∗ WI m c k.val ∗ (dutyTok ER (cell c (kW (sl k'.val))) (k'.val / 2) 0 ∗ wP c k' (Wm m c)))
      ⊢ iprop(((WI m c k'.val ∗ wP c k (Wm m c)) -∗ WP c P Q) -∗ WP c (.op (wwaitE k) fun _ => .op (wcopyE k') fun _ => wstep k P) Q) := by
  obtain ⟨n, hn⟩ := k; obtain ⟨n', hn'⟩ := k'
  obtain rfl : n' = n + 1 := hk
  unfold WI
  dsimp only
  iintro ⟨⟨#HR, #HL⟩, ⟨HO, Hc, Hat, Hat', Hr', Hs', Hb⟩, Ht, Hw⟩ Hk
  iapply (chunk_wait m K c n hn) $$ [HO Hc Hat]
  · isplitr; · isplitr <;> iassumption
    isplitl [HO]; · iexact HO
    isplitl [Hc] <;> iassumption
  iintro ⟨HO, Hat, Hr, Hs, Hw0⟩
  iapply (step_wcopy m K c ⟨n + 1, hn'⟩ ((n + 1) / 2) (by omega) (chunk_sl (n + 1) hn') (w_eq (sl (n + 1)))) $$ [Hr' Ht Hw Hs']
  · isplitr; · iexact HR
    isplitl [Hr']; · iexact Hr'
    isplitl [Ht]; · iexact Ht
    isplitl [Hw] <;> iassumption
  iintro Hc
  iapply (part_chunk m c ⟨n, hn⟩ P) $$ [Hs Hb]
  · isplitl [Hs]; · iexact Hs
    unfold wbTo; iexact Hb
  iintro ⟨Hs, Hb⟩
  iapply Hk
  have e1 : sl (n + 1 + 1) = sl n := Fin.ext (by show (n + 1 + 1) % 2 = n % 2; omega)
  have e2 : (n + 1 + 1) / 2 = n / 2 + 1 := by omega
  rw [e1, e2]
  isplitr [Hw0]
  · isplitl [HO]; · iexact HO
    isplitl [Hc]; · iexact Hc
    isplitl [Hat']; · iexact Hat'
    isplitl [Hat]; · iexact Hat
    isplitl [Hr]; · iexact Hr
    isplitl [Hs]; · iexists _; iexact Hs
    unfold wbTo; iexact Hb
  iexact Hw0

/-- The loop over a list of consecutive pairs ending in the last chunk. -/
theorem chunk_loop {α : Type} {Q : α → sProp 𝕄} (P : TProg F α) :
    ∀ (l : List (Fin 8 × Fin 8)) (k : Fin 8), List.IsChain (fun a b => b.1 = a.2) ((k, k) :: l) → (∀ p ∈ l, p.2.val = p.1.val + 1) → (((k, k) :: l).getLast (List.cons_ne_nil _ _)).2 = 7 →
    iprop((recs m K ∗ levAts L lv) ∗ WI m c k.val ∗ sepL (fun p : Fin 8 × Fin 8 => iprop(dutyTok ER (cell c (kW (sl p.2.val))) (p.2.val / 2) 0 ∗ wP c p.2 (Wm m c))) l)
      ⊢ iprop(((ow c (OA c all31) ∗ atPos ER (cell c (kW 0)) 4 ∅ 0 ∗ atPos ER (cell c (kW 1)) 4 ∅ 0 ∗ (∃ f, wsP c 0 f) ∗ (∃ f, wsP c 1 f)
          ∗ pt c cc0_scratch2 (WB m c) ∗ sepL (fun p : Fin 8 × Fin 8 => wP c p.1 (Wm m c)) l ∗ wP c 7 (Wm m c)) -∗ WP c P Q) -∗ WP c (wrest P l) Q)
  | [], k, _, _, h7 => by
    have h7 : k = 7 := h7
    subst h7
    unfold sepL wrest WI
    iintro ⟨⟨#HR, #HL⟩, ⟨HO, Hc, Hat, Hat', Hr', Hs', Hb⟩, -⟩ Hk
    iapply (chunk_wait m K c (7 : Fin 8).val (7 : Fin 8).isLt) $$ [HO Hc Hat]
    · isplitr; · isplitr <;> iassumption
      isplitl [HO]; · iexact HO
      isplitl [Hc] <;> iassumption
    iintro ⟨HO, Hat, Hr, Hs, Hw0⟩
    iapply (part_chunk m c 7 P) $$ [Hs Hb]
    · isplitl [Hs]; · iexact Hs
      unfold wbTo; iexact Hb
    iintro ⟨Hs, ⟨%f, %hf, Hb⟩⟩
    have hf' : f = WB m c := funext fun i => hf i (by have h : (i 0).val < 4096 := (i 0).isLt; exact h)
    subst hf'
    iapply Hk
    isplitl [HO]; · iexact HO
    isplitl [Hat']; · iexact Hat'
    isplitl [Hat]; · iexact Hat
    isplitl [Hs']; · iexact Hs'
    isplitl [Hs]; · iexists _; iexact Hs
    isplitl [Hb]; · iexact Hb
    isplitr; · iempintro
    iexact Hw0
  | (k₀, k') :: l, k, hc, hs, h7 => by
    have h0 : k₀ = k := (List.isChain_cons_cons.mp hc).1
    subst h0
    rw [sepL, sepL, wrest]
    iintro ⟨⟨#HR, #HL⟩, HI, ⟨Ht, Hl⟩⟩ Hk
    iapply (chunk_turn m K c k₀ k' (hs _ List.mem_cons_self) (wrest P l)) $$ [HI Ht]
    · isplitr; · isplitr <;> iassumption
      isplitl [HI] <;> iassumption
    iintro ⟨HI, Hw0⟩
    have hc' : List.IsChain (fun a b : Fin 8 × Fin 8 => b.1 = a.2) ((k', k') :: l) := by
      have h := (List.isChain_cons_cons.mp hc).2
      cases l with
      | nil => exact List.isChain_singleton _
      | cons p l => exact List.isChain_cons_cons.mpr ⟨(List.isChain_cons_cons.mp h).1, (List.isChain_cons_cons.mp h).2⟩
    iapply (chunk_loop P l k' hc' (fun p hp => hs p (List.mem_cons_of_mem _ hp)) (by
      rw [List.getLast_cons (List.cons_ne_nil _ _)] at h7
      cases l with
      | nil => exact h7
      | cons p l => rw [List.getLast_cons (List.cons_ne_nil _ _)] at h7 ⊢; exact h7)) $$ [HI Hl]
    · isplitr; · isplitr <;> iassumption
      isplitl [HI] <;> iassumption
    iintro ⟨HO, H0, H1, Hs0, Hs1, Hb, Hl, H7⟩
    iapply Hk
    isplitl [HO]; · iexact HO
    isplitl [H0]; · iexact H0
    isplitl [H1]; · iexact H1
    isplitl [Hs0]; · iexact Hs0
    isplitl [Hs1]; · iexact Hs1
    isplitl [Hb]; · iexact Hb
    isplitr [H7]
    · isplitl [Hw0] <;> iassumption
    iexact H7

/-- What the loop, with its first transfer, starts from: every chunk's token, and the positions of the two cells. -/
def wTok (k : Fin 8) : sProp 𝕄 := dutyTok ER (cell c (kW (sl k.val))) (k.val / 2) 0

/-- The chunks, from the first transfer to the last chunk narrowed. -/
theorem part_chunks {α : Type} {Q : α → sProp 𝕄} (P : TProg F α) :
    iprop((recs m K ∗ levAts L lv) ∗ ow c (OA c all31) ∗ atPos ER (cell c (kW 0)) 0 ∅ 0 ∗ atPos ER (cell c (kW 1)) 0 ∅ 0
        ∗ bigSep Finset.univ (wTok (F := F) c) ∗ (∃ f, pt c cc0_scratch1 f) ∗ (∃ f, pt c cc0_scratch2 f) ∗ pt c main_arg1 (Wm m c))
      ⊢ iprop(((ow c (OA c all31) ∗ atPos ER (cell c (kW 0)) 4 ∅ 0 ∗ atPos ER (cell c (kW 1)) 4 ∅ 0
          ∗ (∃ f, pt c cc0_scratch1 f) ∗ pt c cc0_scratch2 (WB m c) ∗ pt c main_arg1 (Wm m c)) -∗ WP c P Q)
        -∗ WP c (.op (wcopyE 0) fun _ => wrest P all7) Q) := by
  have hw : (Finset.univ : Finset (Fin 8)) = [(0 : Fin 8), 1, 2, 3, 4, 5, 6, 7].toFinset := by decide
  have h8 : ∀ Φ : Fin 8 → sProp 𝕄, bigSep Finset.univ Φ = sepL Φ [0, 1, 2, 3, 4, 5, 6, 7] := fun Φ => by rw [hw]; exact sepL_eq Φ (by decide)
  have h2 : ∀ Φ : Fin 2 → sProp 𝕄, bigSep Finset.univ Φ = sepL Φ [0, 1] := fun Φ => by
    rw [show (Finset.univ : Finset (Fin 2)) = [(0 : Fin 2), 1].toFinset by decide]; exact sepL_eq Φ (by decide)
  rw [w_blocks, h8, h8]
  iintro ⟨⟨#HR, #HL⟩, HO, Hat0, Hat1, Ht, ⟨%f1, Hs⟩, ⟨%f2, Hb⟩, Hw⟩ Hk
  ihave Hs := (Entails.of_eq ((ws_blocks c f1).trans (h2 _))) $$ Hs
  simp only [sepL]
  icases Ht with ⟨T0, T1, T2, T3, T4, T5, T6, T7, -⟩
  icases Hw with ⟨W0, W1, W2, W3, W4, W5, W6, W7, -⟩
  icases Hs with ⟨S0, S1, -⟩
  unfold wTok
  ihave #Hr0 := (recs_reached m K c (kW 0)) $$ HR
  ihave #Hr1 := (recs_reached m K c (kW 1)) $$ HR
  iapply (step_wcopy m K c 0 0 (by decide) (by decide) (w_eq 0)) $$ [T0 W0 S0]
  · isplitr; · iexact HR
    isplitr; · iexact Hr0
    isplitl [T0]; · iexact T0
    isplitl [W0]; · iexact W0
    iexists _; iexact S0
  iintro Hc
  iapply (chunk_loop m K c P all7 0 (by decide) (by decide) (by decide)) $$ [HO Hat0 Hat1 Hc S1 Hb T1 T2 T3 T4 T5 T6 T7 W1 W2 W3 W4 W5 W6 W7]
  · isplitr; · isplitr <;> iassumption
    isplitl [HO Hat0 Hat1 Hc S1 Hb]
    · unfold WI wbTo
      isplitl [HO]; · iexact HO
      isplitl [Hc]; · iexact Hc
      isplitl [Hat0]; · iexact Hat0
      isplitl [Hat1]; · iexact Hat1
      isplitr; · iexact Hr1
      isplitl [S1]; · iexists _; iexact S1
      iexists _
      isplitr
      rotate_left
      · iexact Hb
      · ipureintro; exact fun i hi => absurd hi (Nat.not_lt_zero _)
    · unfold all7
      simp only [sepL]
      isplitl [T1 W1]; · isplitl [T1] <;> iassumption
      isplitl [T2 W2]; · isplitl [T2] <;> iassumption
      isplitl [T3 W3]; · isplitl [T3] <;> iassumption
      isplitl [T4 W4]; · isplitl [T4] <;> iassumption
      isplitl [T5 W5]; · isplitl [T5] <;> iassumption
      isplitl [T6 W6]; · isplitl [T6] <;> iassumption
      isplitl [T7 W7]; · isplitl [T7] <;> iassumption
      iempintro
  unfold all7
  simp only [sepL]
  iintro ⟨HO, H0, H1, S0, S1, Hb, ⟨W0, W1, W2, W3, W4, W5, W6, -⟩, W7⟩
  iapply Hk
  isplitl [HO]; · iexact HO
  isplitl [H0]; · iexact H0
  isplitl [H1]; · iexact H1
  isplitl [S0 S1]
  · iapply (ws_join (F := F) c (WS m c 0))
    iapply (Entails.of_eq (h2 (fun b => iprop(∃ f, wsP (F := F) c b f))).symm)
    simp only [sepL]
    isplitl [S0]; · iexact S0
    isplitl [S1]; · iexact S1
    iempintro
  isplitl [Hb]; · iexact Hb
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  iempintro

end

end Cert.KProof
-- ==== Proof.Body.lean ====
/-
# The body, run

The body from what the launch hands a device to what it leaves: the groups of steps in program order, each by its rule.
-/
module

public import proofs.«01_k».proof.Proof.Chunks

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families regrouped -/

/-- A family over the devices: one device's part, and those of the devices it addresses. -/
theorem dev_tgt (Φ : Dev nD → sProp 𝕄) (c : Dev nD) : bigSep Finset.univ Φ = iprop(Φ c ∗ all (fun j => Φ (tgt c j))) := by
  rw [univ_tgt c, bigSep_insert (by
    intro h; obtain ⟨j, -, hj⟩ := Finset.mem_map.mp h; exact tgt_ne c j hj), bigSep_map]
  rfl
/-- A family over the devices that address a device is one over the devices it addresses. -/
theorem all_src (Φ : Dev nD → sProp 𝕄) (c : Dev nD) : all (fun j => Φ (src c j)) = all (fun j => Φ (tgt c j)) := by
  unfold all
  rw [bigSep_univ_equiv Fin.revPerm (fun j => Φ (src c j))]
  exact bigSep_congr fun j _ => congrArg Φ (src_rev c j)
/-- A family over the devices: one device's part, and those of the devices that address it. -/
theorem dev_src (Φ : Dev nD → sProp 𝕄) (c : Dev nD) : bigSep Finset.univ Φ = iprop(Φ c ∗ all (fun j => Φ (src c j))) := by
  rw [all_src]; exact dev_tgt Φ c

/-- A family of pairs over the steps is a pair of families. -/
theorem all_sep (Φ Ψ : Fin 31 → sProp 𝕄) : all (fun j => iprop(Φ j ∗ Ψ j)) = iprop(all Φ ∗ all Ψ) := bigSep_sep' _ _ _

/-- A family over a device's cells, kind by kind. -/
theorem cells_split (Φ : CI → sProp 𝕄) : bigSep Finset.univ Φ
    = iprop((all (fun j => Φ (kSnd j)) ∗ all (fun j => Φ (kRcv j)) ∗ all (fun j => Φ (kAsn j)) ∗ all (fun j => Φ (kArc j)))
      ∗ (Φ (kW 0) ∗ Φ (kW 1)) ∗ Φ kBar) := by
  rw [bigSep_univ_sum, bigSep_univ_sum, bigSep_univ_prod]
  rw [bigSep_univ_eq_bigSepL [(0 : Fin 4), 1, 2, 3] (by decide) (by decide), bigSep_univ_eq_bigSepL [(0 : Fin 2), 1] (by decide) (by decide),
    bigSep_univ_eq_bigSepL [()] (by decide) (by decide)]
  rfl

/-! ## Buffers block by block -/

/-- Device `c`'s narrowed columns whole are its own row block and those of the devices it addresses. -/
theorem xb_blocks (c : Dev nD) (f : S4096x128.Idx → F .bf16) : pt (F := F) c cc0_scratch0 f = iprop(xbP c c f ∗ all (fun j => xbP c (tgt c j) f)) := by
  rw [← dev_tgt (fun d => xbP c d f) c]
  unfold xbP
  exact Ring.pointsTo_blocks (Ix := Unit) (Name := ℕ) (U := UU) (Lvl := ℕ) (Val := Elt F) (ℓ := (c : Thread nD τ).loc cc0_scratch0) (q := fullShare)
    (fun d => (xbRect d).set) xb_disj xb_cover f
/-- Device `c`'s gathered rows whole are its own column block and those of the devices it addresses. -/
theorem xg_blocks (c : Dev nD) (f : S128x4096.Idx → F .bf16) : pt (F := F) c cc0_scratch3 f = iprop(xgP c c f ∗ all (fun j => xgP c (tgt c j) f)) := by
  rw [← dev_tgt (fun d => xgP c d f) c]
  unfold xgP
  exact Ring.pointsTo_blocks (Ix := Unit) (Name := ℕ) (U := UU) (Lvl := ℕ) (Val := Elt F) (ℓ := (c : Thread nD τ).loc cc0_scratch3) (q := fullShare)
    (fun d => (xgRect d).set) xg_disj xg_cover f
/-- Device `c`'s gathered maxima whole are its own slot and those of the devices it addresses. -/
theorem ag_blocks (c : Dev nD) (f : S32x8x128.Idx → F .f32) : pt (F := F) c cc0_scratch6 f = iprop(agP c c f ∗ all (fun j => agP c (tgt c j) f)) := by
  rw [← dev_tgt (fun d => agP c d f) c]
  unfold agP
  exact Ring.pointsTo_blocks (Ix := Unit) (Name := ℕ) (U := UU) (Lvl := ℕ) (Val := Elt F) (ℓ := (c : Thread nD τ).loc cc0_scratch6) (q := fullShare)
    (fun d => (agRect d).set) ag_disj ag_cover f

/-- Device `c`'s own maximum splits into a share kept and one share for each step. -/
theorem am_split (c : Dev nD) (f : S8x128.Idx → F .f32) :
    pt (F := F) c cc0_scratch5 f ⊢ iprop(amP c (shareDrop fullShare 31) f ∗ all (fun j => amP c (shareTok fullShare 31 j) f)) := by
  unfold amP; exact pointsTo_toks_split fullShare 31
/-- The share kept and the shares of the steps join to device `c`'s own maximum whole. -/
theorem am_join (c : Dev nD) (f : S8x128.Idx → F .f32) :
    iprop(amP c (shareDrop fullShare 31) f ∗ all (fun j => amP c (shareTok fullShare 31 j) f)) ⊢ pt (F := F) c cc0_scratch5 f := by
  unfold amP; exact pointsTo_toks_join fullShare 31

/-- Each at some contents, from all at one. -/
theorem all_exists {X : Type} (Φ : Fin 31 → X → sProp 𝕄) (x : X) : all (fun j => Φ j x) ⊢ all (fun j => iprop(∃ f, Φ j f)) :=
  bigSep_mono fun j _ => by
    show Φ j x ⊢ iprop(∃ f, Φ j f)
    iintro H; iexists x; iexact H

section
variable (K : Dev nD × CI → ℕ) (c : Dev nD) {β : Type}

/-! ## The groups -/

/-- The thirty-one signals. -/
theorem grp_sig {Q : β → sProp 𝕄} (P : TProg F β) :
    iprop(recs m K ∗ ow c (O₀ c) ∗ all (fun j => dutyTok ER (cell (tgt c j) kBar) 0 j) ∗ all (fun j => iprop(∃ f, xgP c (tgt c j) f)) ∗ all (fun j => iprop(∃ f, agP c (tgt c j) f)))
      ⊢ iprop((ow c (OX c all31) -∗ WP c P Q) -∗ WP c (each (sigE c) all31 P) Q) := by
  iintro ⟨#HR, HO, H1, H2, H3⟩ Hk
  iapply (wp_all c (recs m K) (sigE c) (fun l => ow c (OB c l))
    (fun j => iprop(dutyTok ER (cell (tgt c j) kBar) 0 j ∗ (∃ f, xgP c (tgt c j) f) ∗ (∃ f, agP c (tgt c j) f))) (fun _ => iprop(emp)) Q
    (fun j l P' => by
      iintro ⟨#HR, HO, HΦ⟩ Hk
      iapply (step_sig m K c j (devB j c) (devB_eq j c) (OB c l)) $$ [HO HΦ]
      · isplitr; · iexact HR
        isplitl [HO]; · iexact HO
        iexact HΦ
      iintro HO
      iapply Hk
      isplitl [HO]; · iexact HO
      iempintro) P) $$ [HO H1 H2 H3]
  · isplitr; · iexact HR
    isplitl [HO]; · iexact HO
    rw [all_sep, all_sep]
    isplitl [H1]; · iexact H1
    isplitl [H2] <;> iassumption
  iintro ⟨HO, -⟩
  iapply Hk; iexact HO

/-- The thirty-one transfers of row blocks. -/
theorem grp_send {Q : β → sProp 𝕄} (P : TProg F β) :
    iprop(recs m K ∗ ow c (OX c all31) ∗ all (fun j => dutyTok ER (cell c (kSnd j)) 0 0) ∗ all (fun j => dutyTok ER (cell (tgt c j) (kRcv j)) 0 0)
        ∗ all (fun j => xbP c (tgt c j) (XB m c)) ∗ all (fun j => iprop(∃ f, xgP (tgt c j) c f)))
      ⊢ iprop(((ow c (OA c all31) ∗ all (fun j => cred (tallyAt (cell c (kSnd j)) () Nx))) -∗ WP c P Q) -∗ WP c (each (sendE c) all31 P) Q) := by
  iintro ⟨#HR, HO, H1, H2, H3, H4⟩ Hk
  iapply (wp_all c (recs m K) (sendE c) (fun l => ow c (OX c l))
    (fun j => iprop(dutyTok ER (cell c (kSnd j)) 0 0 ∗ dutyTok ER (cell (tgt c j) (kRcv j)) 0 0 ∗ xbP c (tgt c j) (XB m c) ∗ ∃ f, xgP (tgt c j) c f))
    (fun j => cred (tallyAt (cell c (kSnd j)) () Nx)) Q
    (fun j l P' => step_send m K c j (devX j c) (devX_eq j c) (snd_eq j) (rcv_eq j) (OX c l) (fun _ => P')) P) $$ [HO H1 H2 H3 H4]
  · isplitr; · iexact HR
    isplitl [HO]; · iexact HO
    rw [all_sep, all_sep, all_sep]
    isplitl [H1]; · iexact H1
    isplitl [H2]; · iexact H2
    isplitl [H3] <;> iassumption
  iexact Hk

/-- The thirty-one transfers of the maximum. -/
theorem grp_asend {Q : β → sProp 𝕄} (P : TProg F β) :
    iprop(recs m K ∗ ow c (OA c all31) ∗ all (fun j => dutyTok ER (cell c (kAsn j)) 0 0) ∗ all (fun j => dutyTok ER (cell (tgt c j) (kArc j)) 0 0)
        ∗ all (fun j => amP c (shareTok fullShare 31 j) (AM m c)) ∗ all (fun j => iprop(∃ f, agP (tgt c j) c f)))
      ⊢ iprop(((ow c 0 ∗ all (fun j => cred (tallyAt (cell c (kAsn j)) () Na))) -∗ WP c P Q) -∗ WP c (each (asendE c) all31 P) Q) := by
  iintro ⟨#HR, HO, H1, H2, H3, H4⟩ Hk
  iapply (wp_all c (recs m K) (asendE c) (fun l => ow c (OA c l))
    (fun j => iprop(dutyTok ER (cell c (kAsn j)) 0 0 ∗ dutyTok ER (cell (tgt c j) (kArc j)) 0 0 ∗ amP c (shareTok fullShare 31 j) (AM m c) ∗ ∃ f, agP (tgt c j) c f))
    (fun j => cred (tallyAt (cell c (kAsn j)) () Na)) Q
    (fun j l P' => step_asend m K c j (devA j c) (devA_eq j c) (asn_eq j) (arc_eq j) (OA c l) (fun _ => P')) P) $$ [HO H1 H2 H3 H4]
  · isplitr; · iexact HR
    isplitl [HO]; · iexact HO
    rw [all_sep, all_sep, all_sep]
    isplitl [H1]; · iexact H1
    isplitl [H2]; · iexact H2
    isplitl [H3] <;> iassumption
  iexact Hk

/-- Thirty-one waits, one on each cell of a kind: what each cell's one round hands over. -/
theorem grp_wait {Q : β → sProp 𝕄} (P : TProg F β) (f : Fin 31 → TpuEff nD τ sig (Elt F) Λ₀ .tc PUnit) (q : Fin 4) (N : ℕ) (sm : Fin 31 → SemLoc sig) (n : Fin 31 → ℕ)
    (hw : ∀ j, ∀ k : PUnit → sProp 𝕄, wpE (defs₀ (F := F)) 𝒱₀ (c : Thread nD τ) none Set.univ (f j) k = waitSpec (c : Thread nD τ) Set.univ (sm j) (n j) k)
    (hsm : ∀ j, sm j = csem (.inl (q, j))) (hn : ∀ j, n j = N) (ha : ∀ j, (Rd (F := F) m).amount (cell c (.inl (q, j))) 0 0 = N)
    (O : CellTallies nD τ sig Unit) (hO : ∀ j, (levAts L lv : sProp 𝕄) ⊢ MayWait (c : Thread nD τ) (csem (.inl (q, j))) () O)
    (pay : Fin 31 → sProp 𝕄) (hp : ∀ j, (Rd (F := F) m).payload (cell c (.inl (q, j))) 0 0 = pay j) :
    iprop((recs m K ∗ levAts L lv) ∗ ow c O ∗ all (fun j => cred (tallyAt (cell c (.inl (q, j))) () N)) ∗ all (fun j => atPos ER (cell c (.inl (q, j))) 0 ∅ 0))
      ⊢ iprop(((ow c O ∗ all (fun j => atPos ER (cell c (.inl (q, j))) 1 ∅ 0) ∗ all pay) -∗ WP c P Q) -∗ WP c (each f all31 P) Q) := by
  iintro ⟨#HR, HO, H1, H2⟩ Hk
  iapply (wp_all c iprop(recs m K ∗ levAts L lv) f (fun _ => ow c O)
    (fun j => iprop(cred (tallyAt (cell c (.inl (q, j))) () N) ∗ atPos ER (cell c (.inl (q, j))) 0 ∅ 0))
    (fun j => iprop(atPos ER (cell c (.inl (q, j))) 1 ∅ 0 ∗ pay j)) Q
    (fun j l P' => by
      iintro ⟨⟨#HR, #HL⟩, HO, Hc, Hat⟩ Hk
      iapply (step_wait m K c (hw j) (.inl (q, j)) (hsm j) N (hn j) 0 (duties_x m c q j) (ha j) O) $$ [HO Hc Hat]
      · isplitr; · iexact HR
        isplitl [HO]; · iexact HO
        isplitr; · iapply (hO j); iexact HL
        isplitl [Hc] <;> iassumption
      iintro ⟨HO, Hat, -, Hp⟩
      ihave Hp := (Entails.of_eq (hp j)) $$ Hp
      iapply Hk
      isplitl [HO]; · iexact HO
      isplitl [Hat] <;> iassumption) P) $$ [HO H1 H2]
  · isplitr; · iexact HR
    isplitl [HO]; · iexact HO
    rw [all_sep]
    isplitl [H1] <;> iassumption
  rw [all_sep]
  iexact Hk

/-- A cell past its last round closes at zero. -/
theorem close_one (k : CI) : iprop(recs m K ∗ atPos ER (cell c k) (last k) ∅ 0) ⊢ (iprop(|={Set.univ}=> semVal (cell c k) 0) : sProp 𝕄) := by
  iintro ⟨#HR, Hat⟩
  ihave #HI := (recs_inv m K c k) $$ HR
  imod (Rounds.cell_close ER (Rd m) (Set.mem_univ (K (c, k))) (fun h => h) (R := last k) (duties_later m c k)) $$ [Hat] with Hz
  · isplitr; · iexact HI
    iexact Hat
  imodintro; iexact Hz

/-- Every cell of the device, past its last round, closes at zero. -/
theorem close_cells : iprop(recs m K ∗ bigSep Finset.univ (fun k : CI => atPos ER (cell c k) (last k) ∅ 0))
    ⊢ (iprop(|={Set.univ}=> bigSep Finset.univ (fun k : CI => semVal (cell c k) 0)) : sProp 𝕄) :=
  ((sep_mono_left (BI.bigSep_of_persistent Finset.univ (recs m K))).trans (by
    rw [← bigSep_sep']
    exact bigSep_mono fun k _ => close_one m K c k)).trans (bigSep_fupd _ _)

/-- What the barrier's signals hand over, by the devices they come from. -/
theorem bar_all : all (barPay (F := F) c) = iprop(all (fun j => iprop(∃ f, xgP (F := F) (tgt c j) c f)) ∗ all (fun j => iprop(∃ f, agP (F := F) (tgt c j) c f))) := by
  rw [← all_src (fun d => iprop(∃ f, xgP (F := F) d c f)) c, ← all_src (fun d => iprop(∃ f, agP (F := F) d c f)) c, ← all_sep]
  rfl

/-- Positions on every cell, kind by kind. -/
def posL (r : CI → ℕ) : sProp 𝕄 :=
  iprop((all (fun j => atPos ER (cell c (kSnd j)) (r (kSnd j)) ∅ 0) ∗ all (fun j => atPos ER (cell c (kRcv j)) (r (kRcv j)) ∅ 0)
      ∗ all (fun j => atPos ER (cell c (kAsn j)) (r (kAsn j)) ∅ 0) ∗ all (fun j => atPos ER (cell c (kArc j)) (r (kArc j)) ∅ 0))
    ∗ (atPos ER (cell c (kW 0)) (r (kW 0)) ∅ 0 ∗ atPos ER (cell c (kW 1)) (r (kW 1)) ∅ 0) ∗ atPos ER (cell c kBar) (r kBar) ∅ 0)
/-- A device's positions over all its cells are its positions kind by kind. -/
theorem pos_split (r : CI → ℕ) : bigSep Finset.univ (fun k : CI => (atPos ER (cell c k) (r k) ∅ 0 : sProp 𝕄)) = posL c r :=
  cells_split (fun k : CI => (atPos ER (cell c k) (r k) ∅ 0 : sProp 𝕄))

end

section Body
variable (K : Dev nD × CI → ℕ)

/-- A staging buffer of device `c`, whole, at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body leaves. -/
def bodyPost (c : Dev nD) : sProp 𝕄 :=
  iprop(Φ₁ m c ∗ (dats m ρ 0 c).owesAt () t₀.succ ∗ stg c cc0_stg0_0 (xstg m c) ∗ stg c cc0_stg1_0 (OUT m c))

/-- The body, from its phases: device `c` ends with its own columns as they were and its rows of the result. -/
theorem sound_phases (c : Dev nD) (Q : PUnit → sProp 𝕄) :
    iprop((recs m K ∗ levAts L lv) ∗ posL c (fun _ => 0) ∗ toks c ∗ creds c ∗ ow c (O₀ c) ∗ scr c ∗ pt c main_arg1 (Wm m c)
        ∗ pt c cc0_stg0_0 (xstg m c) ∗ (∃ f, pt c cc0_stg1_0 f))
      ⊢ iprop(((scr c ∗ posL c last ∗ ow c 0 ∗ pt c main_arg1 (Wm m c) ∗ pt c cc0_stg0_0 (xstg m c) ∗ pt c cc0_stg1_0 (OUT m c)) -∗ WP c (.ret ⟨⟩) Q)
        -∗ WP c bodyP Q) := by
  unfold bodyP
  simp only [wp_deviceId]
  unfold posL toks creds scr
  iintro ⟨⟨#HR, #HL⟩, ⟨⟨PS, PR, PAS, PAR⟩, ⟨PW0, PW1⟩, PB⟩, ⟨TB, TS, TR, TAS, TAR, TW⟩, ⟨CB, CR, CAR⟩, HO, ⟨⟨%f0, S0⟩, S1, S2, ⟨%f3, S3⟩, S4, S5, ⟨%f6, S6⟩⟩, Hw, Hx, Ho⟩ Hk
  -- the signals
  ihave S3 := (Entails.of_eq (xg_blocks c f3)) $$ S3
  icases S3 with ⟨X0, X⟩
  ihave S6 := (Entails.of_eq (ag_blocks c f6)) $$ S6
  icases S6 with ⟨A0, A⟩
  ihave X := (all_exists (fun j f => xgP c (tgt c j) f) f3) $$ X
  ihave A := (all_exists (fun j f => agP c (tgt c j) f) f6) $$ A
  iapply (grp_sig m K c) $$ [HO TB X A]
  · isplitr; · iexact HR
    isplitl [HO]; · iexact HO
    isplitl [TB]; · iexact TB
    isplitl [X] <;> iassumption
  iintro HO
  -- the barrier
  iapply (step_bar m K c (OX c all31)) $$ [HO CB PB]
  · isplitr; · iexact HR
    isplitl [HO]; · iexact HO
    isplitr; · iapply (mayWait_OX c kBar (by show 1 ≤ 1; decide) all31); iexact HL
    isplitl [CB] <;> iassumption
  iintro ⟨HO, PB, Hb⟩
  ihave Hb := (Entails.of_eq (bar_all c)) $$ Hb
  icases Hb with ⟨X, A⟩
  -- the columns narrowed
  iapply (part_cast m c) $$ [Hx S0 X0]
  · isplitl [Hx]; · iexact Hx
    isplitl [S0]
    · iexists f0; iexact S0
    · iexists f3; iexact X0
  iintro ⟨Hx, S0, X0⟩
  ihave S0 := (Entails.of_eq (xb_blocks c (XB m c))) $$ S0
  icases S0 with ⟨B0, B⟩
  -- the row blocks sent
  iapply (grp_send m K c) $$ [HO TS TR B X]
  · isplitr; · iexact HR
    isplitl [HO]; · iexact HO
    isplitl [TS]; · iexact TS
    isplitl [TR]; · iexact TR
    isplitl [B] <;> iassumption
  iintro ⟨HO, CS⟩
  -- the right operand
  iapply (part_chunks m K c) $$ [HO PW0 PW1 TW S1 S2 Hw]
  · isplitr
    · isplitr <;> iassumption
    isplitl [HO]; · iexact HO
    isplitl [PW0]; · iexact PW0
    isplitl [PW1]; · iexact PW1
    isplitl [TW]; · iexact TW
    isplitl [S1]; · iexact S1
    isplitl [S2] <;> iassumption
  iintro ⟨HO, PW0, PW1, S1, S2, Hw⟩
  -- the row blocks received
  iapply (grp_wait m K c _ (rwaitE c) 1 Nx (fun j => .dma (rcvS j)) (fun j => (xgBlk c).view.dmaCredit)
    (fun j => wpE_waitDma2_eq 𝒱₀ (c : Thread nD τ) none Set.univ) rcv_eq (fun j => Nx_xg c) (fun j => amount_rcv m c j 0 0) (OA c all31)
    (fun j => mayWait_OA c (kRcv j) (by show 2 ≤ 2; decide) all31) (fun j => xgP c (src c j) (XG m c)) (fun j => payload_rcv m c j 0 0)) $$ [HO CR PR]
  · isplitr
    · isplitr <;> iassumption
    isplitl [HO]; · iexact HO
    isplitl [CR] <;> iassumption
  iintro ⟨HO, PR, X⟩
  ihave X := (Entails.of_eq (all_src (fun d => xgP c d (XG m c)) c)) $$ X
  ihave S3 := (Entails.of_eq (xg_blocks c (XG m c)).symm) $$ [X0 X]
  · isplitl [X0] <;> iassumption
  -- the product
  iapply (part_dot c (XG m c) (WB m c)) $$ [S3 S2 S4]
  · isplitl [S3]; · iexact S3
    isplitl [S2] <;> iassumption
  iintro ⟨S3, S2, S4⟩
  -- the row blocks sent, waited for
  iapply (grp_wait m K c _ (swaitE c) 0 Nx (fun j => .dma (sndS j)) (fun j => (xbBlk c j).view.dmaCredit)
    (fun j => wpE_waitDma2_eq 𝒱₀ (c : Thread nD τ) none Set.univ) snd_eq (fun j => Nx_xb c j) (fun j => amount_snd m c j 0 0) (OA c all31)
    (fun j => mayWait_OA c (kSnd j) (by show 0 ≤ 2; decide) all31) (fun j => xbP c (tgt c j) (XB m c)) (fun j => payload_snd m c j 0 0)) $$ [HO CS PS]
  · isplitr
    · isplitr <;> iassumption
    isplitl [HO]; · iexact HO
    isplitl [CS] <;> iassumption
  iintro ⟨HO, PS, B⟩
  ihave S0 := (Entails.of_eq (xb_blocks c (XB m c)).symm) $$ [B0 B]
  · isplitl [B0] <;> iassumption
  -- the maximum
  iapply (part_amax m c) $$ [S5 A0]
  · isplitl [S5]; · iexact S5
    iexists f6; iexact A0
  iintro ⟨S5, A0⟩
  ihave S5 := (am_split c (AM m c)) $$ S5
  icases S5 with ⟨M0, M⟩
  iapply (grp_asend m K c) $$ [HO TAS TAR M A]
  · isplitr; · iexact HR
    isplitl [HO]; · iexact HO
    isplitl [TAS]; · iexact TAS
    isplitl [TAR]; · iexact TAR
    isplitl [M] <;> iassumption
  iintro ⟨HO, CAS⟩
  -- the maxima received
  iapply (grp_wait m K c _ (arwaitE c) 3 Na (fun j => .dma (arcS j)) (fun j => (agBlk c).view.dmaCredit)
    (fun j => wpE_waitDma2_eq 𝒱₀ (c : Thread nD τ) none Set.univ) arc_eq (fun j => Na_ag c) (fun j => amount_arc m c j 0 0) 0
    (fun j => by rw [MayWait_zero]; iintro -; iempintro) (fun j => agP c (src c j) (AG m)) (fun j => payload_arc m c j 0 0)) $$ [HO CAR PAR]
  · isplitr
    · isplitr <;> iassumption
    isplitl [HO]; · iexact HO
    isplitl [CAR] <;> iassumption
  iintro ⟨HO, PAR, A⟩
  ihave A := (Entails.of_eq (all_src (fun d => agP c d (AG m)) c)) $$ A
  ihave S6 := (Entails.of_eq (ag_blocks c (AG m)).symm) $$ [A0 A]
  · isplitl [A0] <;> iassumption
  -- the result
  iapply (part_quant c (AG m) (YY m c)) $$ [S6 S4 Ho]
  · isplitl [S6]; · iexact S6
    isplitl [S4]; · iexact S4
    iexact Ho
  iintro ⟨S6, S4, Ho⟩
  -- the maxima sent, waited for
  iapply (grp_wait m K c _ (aswaitE c) 2 Na (fun j => .dma (asnS j)) (fun j => (amM : Memref sig .tc .vmem S8x128 .f32).view.dmaCredit)
    (fun j => wpE_waitDma2_eq 𝒱₀ (c : Thread nD τ) none Set.univ) asn_eq (fun j => Na_am) (fun j => amount_asn m c j 0 0) 0
    (fun j => by rw [MayWait_zero]; iintro -; iempintro) (fun j => amP c (shareTok fullShare 31 j) (AM m c)) (fun j => payload_asn m c j 0 0)) $$ [HO CAS PAS]
  · isplitr
    · isplitr <;> iassumption
    isplitl [HO]; · iexact HO
    isplitl [CAS] <;> iassumption
  iintro ⟨HO, PAS, M⟩
  ihave S5 := (am_join c (AM m c)) $$ [M0 M]
  · isplitl [M0] <;> iassumption
  iapply Hk
  isplitl [S0 S1 S2 S3 S4 S5 S6]
  · isplitl [S0]; · iexists _; iexact S0
    isplitl [S1]; · iexact S1
    isplitl [S2]; · iexists _; iexact S2
    isplitl [S3]; · iexists _; iexact S3
    isplitl [S4]; · iexists _; iexact S4
    isplitl [S5]; · iexists _; iexact S5
    iexists _; iexact S6
  isplitl [PS PR PAS PAR PW0 PW1 PB]
  · isplitl [PS PR PAS PAR]
    · isplitl [PS]; · iexact PS
      isplitl [PR]; · iexact PR
      isplitl [PAS]; · iexact PAS
      iexact PAR
    isplitl [PW0 PW1]
    · isplitl [PW0]; · iexact PW0
      iexact PW1
    iexact PB
  isplitl [HO]; · iexact HO
  isplitl [Hw]; · iexact Hw
  isplitl [Hx]; · iexact Hx
  iexact Ho

set_option maxRecDepth 4000 in
/-- What device `c`'s body starts from: its state, what it owes, and the two staging buffers. -/
def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body, from what the launch hands it to what it leaves. -/
theorem sound_body (c : Dev nD) (Q : PUnit → sProp 𝕄) :
    bodyPre m ρ c ⊢ iprop((bodyPost m ρ c -∗ Q ⟨⟩) -∗ WP c bodyP Q) := by
  unfold bodyPre Φ₀ start ghost
  iintro ⟨⟨⟨⟨%K, #HR, Hp, Ht⟩, Hc, #HL, Hw⟩, Hs⟩, Ho, ⟨%d0, %g0, %hg0, Hx⟩, ⟨%d1, %g1, %hg1, Hout⟩⟩ Hk
  have hx : g0 = xstg m c := by
    rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  iapply (sound_phases m K c) $$ [Hp Ht Hc HO Hs Hw Hx Hout]
  · isplitr
    · isplitr <;> iassumption
    isplitl [Hp]
    · unfold poss
      ihave Hp := (Entails.of_eq (pos_split c (fun _ => 0))) $$ Hp
      iexact Hp
    isplitl [Ht]; · iexact Ht
    isplitl [Hc]; · iexact Hc
    isplitl [HO]
    · unfold ow; iexists W; iexact HO
    isplitl [Hs]; · iexact Hs
    isplitl [Hw]; · iexact Hw
    isplitl [Hx]; · iexact Hx
    iexists g1; iexact Hout
  iintro ⟨Hs, Hp, HO, Hw, Hx, Hout⟩
  ihave Hp := (Entails.of_eq (pos_split c last).symm) $$ Hp
  unfold WP; rw [wp_ret]
  imod (close_cells m K c) $$ [Hp] with Hz
  · isplitr; · iexact HR
    iexact Hp
  imodintro
  iapply Hk
  unfold bodyPost Φ₁ Dat.owesAt Pipeline.owesWithin ow
  rw [show (dats m ρ 0 c).owed t₀.succ = 0 from rfl]
  icases HO with ⟨%W', HO⟩
  isplitl [Hs Hz Hw]
  · isplitl [Hs]; · iexact Hs
    isplitl [Hz] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 65536 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (F := F) xM (Memref.isWhole_whole _) wM (Memref.isWhole_whole _) oM (Memref.isWhole_whole _) xbM (Memref.isWhole_whole _)
      wsM (Memref.isWhole_whole _) wbM (Memref.isWhole_whole _) xgM (Memref.isWhole_whole _) yM (Memref.isWhole_whole _) amM (Memref.isWhole_whole _)
      agM (Memref.isWhole_whole _) cc0_scratch7 cc0_scratch8 cc0_scratch9 cc0_scratch10 cc0_scratch11) (fun _ => bodyPost m ρ c)
  rw [body_eq]
  iintro H
  iapply (sound_body m ρ c fun _ => bodyPost m ρ c) $$ H
  iintro H; iexact H

end Body

end Cert.KProof
-- ==== Proof.Launch.lean ====
/-
# The launch

What every device starts from, made of the semaphores at zero and the ghost state of the protocol, and the run of the
program on the whole mesh.
-/
module

public import proofs.«01_k».proof.Proof.Body
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: every cell's but the barrier's. -/
def osem : (Fin 4 × Fin 31) ⊕ Fin 2 → SemLoc sig
  | .inl x => csem (.inl x)
  | .inr b => csem (kW b)

/-- The semaphores listed as the kernel's own are distinct and none is the pipeline's. -/
theorem ownSemFacts : Pipeline.OwnSemFacts cfg0.spec osem := by decide +kernel

/-- Every window's array is held whole. -/
theorem share_eq (c : Dev nD) (w : Fin cfg0.W) : (dats m ρ 0 c).share w = fullShare := by unfold Dat.share; split <;> rfl

/-! ## The cells and their tokens -/

/-- A cell, given by its device and its kind. -/
abbrev kcell (x : Dev nD × CI) : GSem nD τ sig := cell x.1 x.2

/-- A cell determines its device and its kind. -/
theorem cell_inj {c c' : Dev nD} {k k' : CI} (h : cell c k = cell c' k') : c = c' ∧ k = k' :=
  ⟨congrArg (fun g : GSem nD τ sig => g.1.1) h, csem_inj (congrArg Prod.snd h)⟩
/-- Different pairs of device and kind are different cells. -/
theorem kcell_injective : Function.Injective (kcell : Dev nD × CI → GSem nD τ sig) := by
  rintro ⟨c, k⟩ ⟨c', k'⟩ h
  obtain ⟨h1, h2⟩ := cell_inj h
  exact Prod.ext h1 h2
/-- The cells of all devices. -/
def ringCells : Finset (GSem nD τ sig) := Finset.univ.map ⟨kcell, kcell_injective⟩

/-- A device's duties: one on each transfer's cell, one on a chunk's, one on the barrier's for each signal. -/
abbrev TI : Type := (Fin 4 × Fin 31) ⊕ (Fin 8 ⊕ Fin 31)
/-- The cell, the round and the number of a duty. -/
def tokIx : TI → CI × ℕ × Fin 31
  | .inl x => (.inl x, 0, 0)
  | .inr (.inl k) => (kW (slotOf k), k.val / 2, 0)
  | .inr (.inr j) => (kBar, 0, j)
/-- Different duties of a device differ in cell, round or number. -/
theorem tokIx_injective : Function.Injective tokIx := by
  rintro (x | k | j) (x' | k' | j') h
  · have := congrArg (fun y : CI × ℕ × Fin 31 => y.1) h
    exact congrArg _ (Sum.inl.inj this)
  · exact absurd (congrArg (fun y : CI × ℕ × Fin 31 => y.1) h) (fun h' => by cases h')
  · exact absurd (congrArg (fun y : CI × ℕ × Fin 31 => y.1) h) (fun h' => by cases h')
  · exact absurd (congrArg (fun y : CI × ℕ × Fin 31 => y.1) h) (fun h' => by cases h')
  · have h1 : kW (slotOf k) = kW (slotOf k') := congrArg (fun y : CI × ℕ × Fin 31 => y.1) h
    have h2 : k.val / 2 = k'.val / 2 := congrArg (fun y : CI × ℕ × Fin 31 => y.2.1) h
    have h3 : k.val % 2 = k'.val % 2 := congrArg Fin.val (Sum.inl.inj (Sum.inr.inj h1))
    have : k = k' := Fin.ext (by omega)
    rw [this]
  · exact absurd (Sum.inr.inj (congrArg (fun y : CI × ℕ × Fin 31 => y.1) h)) (fun h' => by cases h')
  · exact absurd (congrArg (fun y : CI × ℕ × Fin 31 => y.1) h) (fun h' => by cases h')
  · exact absurd (Sum.inr.inj (congrArg (fun y : CI × ℕ × Fin 31 => y.1) h)) (fun h' => by cases h')
  · have h1 : j = j' := congrArg (fun y : CI × ℕ × Fin 31 => y.2.2) h
    rw [h1]
/-- The duty of a device, with its cell placed on that device. -/
def tokOf (x : Dev nD × TI) : GSem nD τ sig × ℕ × Fin 31 := (cell x.1 (tokIx x.2).1, (tokIx x.2).2.1, (tokIx x.2).2.2)
/-- Different duties, over all devices, differ in cell, round or number. -/
theorem tokOf_injective : Function.Injective tokOf := by
  rintro ⟨c, t⟩ ⟨c', t'⟩ h
  obtain ⟨h1, h2⟩ := cell_inj (congrArg Prod.fst h)
  have h3 : (tokIx t).2 = (tokIx t').2 := congrArg (fun y : GSem nD τ sig × ℕ × Fin 31 => y.2) h
  exact Prod.ext h1 (tokIx_injective (Prod.ext h2 h3))
/-- The duties of all devices. -/
def ringToks : Finset (GSem nD τ sig × ℕ × Fin 31) := Finset.univ.map ⟨tokOf, tokOf_injective⟩

/-- The ghost state at launch: the pipeline's, and that of every cell and duty. -/
def u₀ : UU :=
  (initOf (Pipeline.cells cfgs cellOf_inj) (Pipeline.launchToks cfgs cellOf_inj), initOf ringCells ringToks)

/-- The duty tokens of device `c`'s own cells. -/
def ownToks (c : Dev nD) : sProp 𝕄 :=
  iprop((all (fun j => dutyTok ER (cell c (kSnd j)) 0 0) ∗ all (fun j => dutyTok ER (cell c (kRcv j)) 0 0)
      ∗ all (fun j => dutyTok ER (cell c (kAsn j)) 0 0) ∗ all (fun j => dutyTok ER (cell c (kArc j)) 0 0))
    ∗ bigSep Finset.univ (fun k : Fin 8 => dutyTok ER (cell c (kW (slotOf k))) (k.val / 2) 0)
    ∗ all (fun j => dutyTok ER (cell c kBar) 0 j))

/-- A device's duty tokens, one for each duty, are its duty tokens kind by kind. -/
theorem ownToks_eq (c : Dev nD) : bigSep Finset.univ (fun t : TI => (dutyTok ER (tokOf (c, t)).1 (tokOf (c, t)).2.1 (tokOf (c, t)).2.2 : sProp 𝕄)) = ownToks c := by
  rw [bigSep_univ_sum, bigSep_univ_sum, bigSep_univ_prod, bigSep_univ_eq_bigSepL [(0 : Fin 4), 1, 2, 3] (by decide) (by decide)]
  rfl

/-- What the launch element deals device `c`. -/
def G (c : Dev nD) : sProp 𝕄 :=
  iprop((bigSep Finset.univ fun k : CI => roundState ER (Rd m) (cell c k) 0)
    ∗ (bigSep Finset.univ fun k : CI => iprop(atPos ER (cell c k) 0 ∅ 0 ∗ reached ER (cell c k) 0)) ∗ ownToks c)

/-- What the global step makes of it. -/
def G' (c : Dev nD) : sProp 𝕄 := iprop(∃ K, ghost m K c)

/-- The ghost state of the cells and duties deals every device its part. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (cell c k) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => ownToks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The one semaphore that outlives the kernel is the barrier's. -/
theorem unscopedSems0_eq (c : Dev nD) : (unscopedSems0 c : sProp 𝕄) = semVal (cell c kBar) 0 := by
  unfold unscopedSems0; rw [bigSep_eq_bigSepL_of_eq [SemLoc.reg barS] (by decide +kernel) (by decide)]; rfl

/-- The kernel's own semaphores at zero and the barrier's are every cell at zero. -/
theorem sems0_eq (c : Dev nD) :
    (bigSep Finset.univ fun k : CI => (semVal (cell c k) 0 : sProp 𝕄))
      = iprop(Pipeline.ownSems0 (Ix := Unit) (Name := ℕ) (U := UU) (Lvl := ℕ) (Val := Elt F) (τ := τ) osem c ∗ unscopedSems0 c) := by
  have h1 : (bigSep Finset.univ fun u : Unit => (semVal (cell c (.inr (.inr u))) 0 : sProp 𝕄)) = semVal (cell c kBar) 0 :=
    bigSep_univ_eq_bigSepL [()] (by decide) (by decide) _
  have h2 : ∀ A B C : sProp 𝕄, iprop(A ∗ B ∗ C) = iprop((A ∗ B) ∗ C) := fun A B C => by
    have e1 : A ∗ B ∗ C ⊢ (A ∗ B) ∗ C := by
      iintro ⟨H1, H2, H3⟩
      isplitl [H1 H2]
      · isplitl [H1] <;> iassumption
      iexact H3
    have e2 : (A ∗ B) ∗ C ⊢ A ∗ B ∗ C := by
      iintro ⟨⟨H1, H2⟩, H3⟩
      isplitl [H1]; · iexact H1
      isplitl [H2] <;> iassumption
    exact BI.Entails.antisymm e1 e2
  unfold Pipeline.ownSems0
  rw [unscopedSems0_eq, bigSep_univ_sum, bigSep_univ_sum, bigSep_univ_sum, h1]
  exact h2 _ _ _

/-- From its semaphores at zero and its part of the ghost state, a device makes the invariants of its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k => iprop(atPos ER (cell c k) 0 ∅ 0 ∗ reached ER (cell c k) 0)) ∗ ownToks c) := by
  unfold G
  iintro ⟨Hos, Hus, Hst, Hat, Htok⟩
  ihave Hv := (Entails.of_eq (sems0_eq (F := F) c).symm) $$ [Hos Hus]
  · isplitl [Hos] <;> iassumption
  imod (show iprop((bigSep Finset.univ fun k : CI => semVal (cell c k) 0) ∗ bigSep Finset.univ fun k : CI => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the ring -/

/-- Every step at once, as a permutation of the devices and steps. -/
def ringAll : Dev nD × Fin 31 ≃ Dev nD × Fin 31 :=
  ⟨fun x => (tgt x.1 x.2, x.2), fun x => (src x.1 x.2, x.2), fun x => Prod.ext (src_tgt x.1 x.2) rfl, fun x => Prod.ext (tgt_src x.1 x.2) rfl⟩

/-- A family over the devices and the steps, dealt from each device to the one that addresses it in the step. -/
theorem around (Φ : Dev nD → Fin 31 → sProp 𝕄) :
    (bigSep Finset.univ fun c : Dev nD => all (fun j => Φ c j)) = bigSep Finset.univ fun c : Dev nD => all (fun j => Φ (tgt c j) j) := by
  unfold all
  rw [← bigSep_univ_prod (fun x : Dev nD × Fin 31 => Φ x.1 x.2), ← bigSep_univ_prod (fun x : Dev nD × Fin 31 => Φ (tgt x.1 x.2) x.2)]
  exact bigSep_univ_equiv ringAll (fun x : Dev nD × Fin 31 => Φ x.1 x.2)

/-- The tokens of every device's own cells are, over all devices, the tokens each device pays with. -/
theorem toks_around : (bigSep Finset.univ fun c : Dev nD => (ownToks c : sProp 𝕄)) ⊢ bigSep Finset.univ fun c : Dev nD => toks c := by
  unfold ownToks toks
  rw [bigSep_sep', bigSep_sep', bigSep_sep', bigSep_sep', bigSep_sep', bigSep_sep', bigSep_sep', bigSep_sep', bigSep_sep', bigSep_sep',
    around (fun c j => dutyTok ER (cell c (kRcv j)) 0 0), around (fun c j => dutyTok ER (cell c (kArc j)) 0 0),
    around (fun c j => dutyTok ER (cell c kBar) 0 j)]
  iintro ⟨⟨H1, H2, H3, H4⟩, H5, H6⟩
  isplitl [H6]; · iexact H6
  isplitl [H1]; · iexact H1
  isplitl [H2]; · iexact H2
  isplitl [H3]; · iexact H3
  isplitl [H4]; · iexact H4
  iexact H5

/-- A persistent fact may be used at every member of a family. -/
theorem with_recs {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- The records, a device's positions and its tokens are what the device is handed. -/
theorem ghost_intro (K : Dev nD × CI → ℕ) (c : Dev nD) : iprop(recs m K ∗ poss c ∗ toks c) ⊢ G' m c := by
  unfold G' ghost
  iintro H
  iexists K; iexact H

/-- What every device allocates, over all devices, is what every device's body starts from. -/
theorem regroup :
    (bigSep Finset.univ fun c : Dev nD => iprop((bigSep Finset.univ fun k => iprop(∃ κ : ℕ, cellInv ER (Rd m) κ (cell c k)))
          ∗ (bigSep Finset.univ fun k => iprop(atPos ER (cell c k) 0 ∅ 0 ∗ reached ER (cell c k) 0)) ∗ ownToks c) : sProp 𝕄)
      ⊢ bigSep Finset.univ (G' m) := by
  rw [bigSep_sep', bigSep_sep', ← bigSep_univ_prod (fun ck : Dev nD × CI => iprop(∃ κ : ℕ, cellInv ER (Rd m) κ (cell ck.1 ck.2))),
    bigSep_congr (s := Finset.univ) (fun (c : Dev nD) _ => bigSep_sep' Finset.univ (fun k : CI => (atPos ER (cell c k) 0 ∅ 0 : sProp 𝕄)) (fun k => reached ER (cell c k) 0)),
    bigSep_sep', ← bigSep_univ_prod (fun ck : Dev nD × CI => (reached ER (cell ck.1 ck.2) 0 : sProp 𝕄))]
  iintro ⟨HI, ⟨Hat, #HR⟩, Htok⟩
  ihave HK := (BI.bigSep_exists_pi Finset.univ (fun (ck : Dev nD × CI) (κ : ℕ) => (cellInv ER (Rd m) κ (cell ck.1 ck.2) : sProp 𝕄))) $$ HI
  icases HK with ⟨%K, #HI⟩
  ihave Htk := (toks_around (F := F)) $$ Htok
  iapply (with_recs (R := recs m K) fun c => ghost_intro m K c)
  isplitr
  · unfold recs; isplitl; · iexact HI
    iexact HR
  · iapply (Entails.of_eq (bigSep_sep' Finset.univ (fun c : Dev nD => (poss c : sProp 𝕄)) toks).symm)
    isplitl [Hat]
    · unfold poss; iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- The credit of device `c`'s cells. -/
def T₀ (c : Dev nD) : CellTallies nD τ sig Unit :=
  (∑ j : Fin 31, tallyAt (cell c (kArc j)) () Na + ∑ j : Fin 31, tallyAt (cell c (kRcv j)) () Nx) + ∑ j : Fin 31, tallyAt (cell c kBar) () 1

/-- What device `c` owes at launch, as three sums over the steps. -/
theorem O₀_sum (c : Dev nD) : O₀ c = (∑ j : Fin 31, fA c j + ∑ j : Fin 31, fX c j) + ∑ j : Fin 31, fB c j := by
  unfold O₀ OB OX OA
  rw [tal_sum _ _ all31_nodup, tal_sum _ _ all31_nodup, tal_sum _ _ all31_nodup, all31_univ, zero_add]

/-- Summed over the devices, a step's tallies are those of the devices addressed. -/
theorem sum_around (g : Dev nD → Fin 31 → CellTallies nD τ sig Unit) : (∑ d : Dev nD, ∑ j : Fin 31, g (tgt d j) j) = ∑ d : Dev nD, ∑ j : Fin 31, g d j := by
  rw [Finset.sum_comm, Finset.sum_comm (s := (Finset.univ : Finset (Dev nD))) (f := fun d j => g d j)]
  exact Finset.sum_congr rfl fun j _ => Equiv.sum_comp (ring j) (fun d => g d j)

/-- What all devices owe at launch is the credit of all devices' cells. -/
theorem owed_sum : (∑ d, O₀ d) = ∑ d, T₀ d := by
  rw [Finset.sum_congr rfl fun d _ => O₀_sum d]
  unfold T₀
  rw [Finset.sum_add_distrib, Finset.sum_add_distrib, Finset.sum_add_distrib, Finset.sum_add_distrib,
    sum_around (fun d j => tallyAt (cell d (kArc j)) () Na), sum_around (fun d j => tallyAt (cell d (kRcv j)) () Nx),
    sum_around (fun d j => tallyAt (cell d kBar) () 1)]

/-- Tallies at cells of device `c` are zero at a cell of another thread. -/
theorem sum_cell {c : Dev nD} {k : Fin 31 → CI} {n : ℕ} {g : GSem nD τ sig} (h : g.1 ≠ (c.tc : Thread nD τ)) :
    (∑ j : Fin 31, (tallyAt (cell c (k j)) () n : CellTallies nD τ sig Unit)) g = 0 := by
  rw [Finset.sum_apply]
  exact Finset.sum_eq_zero fun j _ => tallyAt_ne_cell (fun h' => h (congrArg (fun y : GSem nD τ sig => y.1) h')) _ _

/-- The credit of device `c`'s cells lies at cells of device `c` only. -/
theorem T₀_cell (c : Dev nD) (g : GSem nD τ sig) (h : T₀ c g ≠ 0) : g.1 = (c.tc : Thread nD τ) := by
  by_contra hne
  apply h
  unfold T₀
  rw [Pi.add_apply, Pi.add_apply, sum_cell hne, sum_cell hne, sum_cell (k := fun _ => kBar) hne, add_zero, add_zero]

/-- Thirty-one single credits of the barrier are one credit of thirty-one. -/
theorem bar_credit (c : Dev nD) : (∑ j : Fin 31, (tallyAt (cell c kBar) () 1 : CellTallies nD τ sig Unit)) = tallyAt (cell c kBar) () 31 := by
  rw [Finset.sum_const, Finset.card_univ, Fintype.card_fin]
  funext g; refine Finsupp.ext fun u => ?_
  rw [Pi.smul_apply, Finsupp.smul_apply, tallyAt_apply, tallyAt_apply]
  split <;> rfl

/-- The credit dealt at launch is the credit the body starts from. -/
theorem launch_creds (c : Dev nD) : (Pipeline.launchCred O₀ c : sProp 𝕄) ⊢ creds c := by
  rw [Pipeline.launchCred_of_sum O₀ T₀ owed_sum T₀_cell c]
  unfold T₀ creds all
  rw [bar_credit]
  iintro ⟨⟨H1, H2⟩, H3⟩
  ihave H1 := (Entails.of_eq (Pipeline.cred_finsetSum Finset.univ (fun j : Fin 31 => tallyAt (cell c (kArc j)) () Na))) $$ H1
  ihave H2 := (Entails.of_eq (Pipeline.cred_finsetSum Finset.univ (fun j : Fin 31 => tallyAt (cell c (kRcv j)) () Nx))) $$ H2
  isplitl [H3]; · iexact H3
  isplitl [H2]; · iexact H2
  iexact H1

/-! ## The run's side conditions -/

/-- What a device holds at launch is what its body starts from, but for its scratch. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (launch_creds (F := F) c) $$ Hcr
  imodintro
  unfold start G'
  isplitl
  · isplitl [HG]; · iexact HG
    isplitl [Hc]; · iexact Hc
    isplitl [Hlev]; · iexact Hlev
    iexact Hw
  · iempintro

/-- With the scratch buffers, that is the state before the one grid step. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

/-- What is kept after the region: the barrier's cell at zero, and the right operand. -/
def YY₁ (c : Dev nD) : sProp 𝕄 := iprop(unscopedSems0 c ∗ pt c main_arg1 (Wm m c))

/-- The state after the grid step gives back the semaphores at zero and the scratch buffers, and keeps the right operand. -/
theorem phi1_exit (c : Dev nD) :
    (dats m ρ 0 c).Φ (Fin.last cfg0.N) ⊢ iprop(YY₁ m c ∗ Pipeline.ownSems0 osem c ∗ Pipeline.scopedRest cfg0.spec c) := by
  rw [show (dats m ρ 0 c).Φ (Fin.last cfg0.N) = Φ₁ m c from rfl, scopedRest0_eq]
  unfold Φ₁ scr YY₁
  rw [sems0_eq]
  iintro ⟨Hr, ⟨Ho, Hu⟩, Hw⟩
  isplitl [Hu Hw]
  · isplitl [Hu] <;> iassumption
  isplitl [Ho]; · iexact Ho
  iexact Hr

/-- The pipeline may wait on its own semaphores, before and after the body. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_O₀ c _ (by fin_cases w <;> fin_cases s <;> decide)
    · show (levAts L lv : sProp 𝕄) ⊢ MayWait (c : Thread nD τ) _ () 0
      rw [MayWait_zero]; iintro -; iempintro

/-- The right operand, read off the final state. -/
theorem read_w (c : Dev nD) (s' : Phys nD τ sig (Elt F)) :
    iprop(SI s' ∗ pt c main_arg1 (Wm m c)) ⊢ (<pers> ⌜s'.mem.mem ((c : Thread nD τ).loc main_arg1) = Wm m c⌝ : sProp 𝕄) :=
  (SI_pointsTo_agree.trans (BI.pure_mono fun h => funext fun i => h i (Finset.mem_univ i))).trans BI.persistently_pure.2

/-! ## The run -/

/-- The contents of a window's array when the run is over. -/
def finalA (c : Dev nD) (w : Fin cfg0.W) : Buf (Elt F) ((cfg0.win w).arr.view.loc (c : Thread nD τ)) := (dats m ρ 0 c).arrAt w cfg0.N

/-- A final state is as computed: each window's array at its final contents, the right operand as it was. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = Wm m c

set_option maxRecDepth 65536 in
/-- On the mesh of thirty-two devices, for any float values, from any memory with zero counters: every weakly fair
    execution of the program terminates, and every final state has each window's array at its computed contents, the
    right operand as it was and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := YY₁ m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = Wm m c)
    (hY := fun c s' => by
      unfold YY₁
      iintro ⟨⟨Hu, Hw⟩, -, HSI⟩
      imod (Pipeline.unscopedSems0_read (X := unscopedSems0 c) (c := c) fupd_intro s') $$ [Hu HSI] with ⟨%h1, HSI⟩
      · isplitl [Hu] <;> iassumption
      ihave %h2 := (read_w m c s') $$ [HSI Hw]
      · isplitl [HSI] <;> iassumption
      imodintro
      isplitr; · ipureintro; exact ⟨h1, h2⟩
      iexact HSI)
    (hQ := fun _ h hs => ⟨fun c => ⟨fun w => (h c).1 w, (h c).2.2.2⟩, sem_eq_zero hs fun c => (h c).2.2.1⟩)

/-- The columns' array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KProof
-- ==== Proof.Frames.lean ====
/-
  The frame claims: both texts of the kernel run to the end at every device, leave both argument arrays as they were and
  every counter at zero. The run is proved once, over any number system; each claim reads it at its own.
-/
module

public import proofs.«01_k».proof.Defs
public import proofs.«01_k».proof.Proof.Launch
public import proofs.«01_k».proof.Proof.Gen.Kernel
public import proofs.«01_k».proof.Proof.Gen.ReferenceIdeal.Frame

@[expose] public section

noncomputable section

namespace Cert.KProof

open Idealize.ShloMosaic Idealize.SL.Sem

open Cert.KernelIdeal in
/-- Over any number system, the kernel on every device ends with its two arguments kept and every counter at zero. -/
theorem frame_any {F : FTy → Type} [FloatOps F]
    (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0) ∧
        r.2.mem ((c.tc : Thread nD τ).loc main_arg1) = m ((c.tc : Thread nD τ).loc main_arg1)) ∧ r.2.sem = fun _ => 0) :=
  (θ_run defs _ _).mono
    (fun _ h => ⟨fun c => ⟨((h.1 c).1 0).trans (finalA_x m ρ c), (h.1 c).2⟩, h.2⟩)
    (run_main (F := F) m ρ)

/-- The idealised kernel, on every device, ends with its two arguments kept and every counter at zero. -/
theorem frame_ki : Cert.quiescent_KernelIdeal := fun m ρ _ => frame_any (F := Ideal) m ρ

set_option maxRecDepth 65536 in
/-- The two texts' tables of kernel bodies are one: entry by entry the same text. -/
theorem bodies_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

set_option maxRecDepth 65536 in
/-- So are the tables with the launches' regions. -/
theorem tables_eq : @Cert.Kernel.defs Bits _ _ = @Cert.KernelIdeal.defs Bits _ _ :=
  congrArg (Pipeline.defs (@Cert.KernelIdeal.pcfgs Bits _)) bodies_eq

set_option maxRecDepth 65536 in
/-- The kernel on the machine's own numbers, on every device, ends with its two arguments kept and every counter at
    zero: its text is the idealised one, so the same run serves. -/
theorem frame_k : Cert.quiescent_Kernel := fun m ρ _ => by
  have h := frame_any (F := Bits) m ρ
  rw [← tables_eq] at h
  exact h

/-- The reference ends with its two arguments kept and every counter at zero. -/
theorem frame_ri : Cert.quiescent_ReferenceIdeal := fun m ρ _ => Cert.ReferenceIdeal.Gen.frame m ρ

end Cert.KProof

end
-- ==== Proof.Algebra.lean ====
/-
  The arithmetic of the value claim, over the extended reals. The quantiser: what the kernel writes (a product with
  `448 / g`, then with `g / 448`) is what the reference writes (a quotient by `g / 448`, clipped to ±448, times
  `g / 448`), for every `y` whose magnitude `g` bounds. The maxima: each reduction is the least bound of its operand,
  so the maximum of the devices' maxima is the maximum of the whole. The product: one entry, as a sum over the
  contracted axis.
-/
module

public import proofs.«01_k».proof.Proof.Gen.KernelIdeal.Skeleton
public import proofs.«01_k».proof.Proof.Gen.ReferenceIdeal.Skeleton
public import Idealize.ShloMosaic.PureOps.Ideal.Laws
public import Idealize.ShloMosaic.Lib.MatmulPlain

@[expose] public section

noncomputable section

namespace Cert.KProof

open Idealize.ShloMosaic Idealize.ShloMosaic.ValueIdx
open scoped BigOperators

/-! ## The quantiser -/

/-- The pattern of the format's greatest number is the real 448. -/
theorem bits_448 : Ideal.ofBits .f32 0x43E00000#32 = ((448 : ℝ) : EReal) := by
  simp [Ideal.ofBits, Ideal.ieee, -EReal.coe_mul]; norm_num

/-- The pattern of its negative is the real −448. -/
theorem bits_neg448 : Ideal.ofBits .f32 0xC3E00000#32 = ((-448 : ℝ) : EReal) := by
  simp [Ideal.ofBits, Ideal.ieee, -EReal.coe_mul, -EReal.coe_neg]; norm_num

/-- The pattern a maximum starts from is the least extended real. -/
theorem bits_ninf : Ideal.ofBits .f32 0xFF800000#32 = ⊥ := by
  simp [Ideal.ofBits, Ideal.ieee]

/-- The quantiser both ways, for a bound of `y`'s magnitude: at a zero bound both are zero, at an infinite one both
    are zero, and at a positive real one the quotient lies within ±448 and both give `y`. -/
theorem quant_eq (y g : EReal) (h1 : y ≤ g) (h2 : -y ≤ g) :
    (y * Ideal.div ((448 : ℝ) : EReal) g) * Ideal.div g ((448 : ℝ) : EReal)
      = min ((448 : ℝ) : EReal) (max ((-448 : ℝ) : EReal) (Ideal.div y (Ideal.div g ((448 : ℝ) : EReal))))
        * Ideal.div g ((448 : ℝ) : EReal) := by
  have h448 : (448 : ℝ) ≠ 0 := by norm_num
  rw [Ideal.div_coe h448 g]
  induction g using EReal.rec with
  | bot =>
    rw [le_bot_iff] at h1
    subst h1
    simp at h2
  | top =>
    have e : Ideal.div ((448 : ℝ) : EReal) ⊤ = 0 := by simp [Ideal.div]
    have e2 : (⊤ : EReal) * ((1 / 448 : ℝ) : EReal) = ⊤ := EReal.top_mul_coe_of_pos (by norm_num)
    have e3 : Ideal.div y ⊤ = 0 := by simp [Ideal.div]
    rw [e, e2, e3, mul_zero, zero_mul, max_eq_right (by exact_mod_cast (by norm_num : (-448 : ℝ) ≤ 0)),
      min_eq_right (by exact_mod_cast (by norm_num : (0 : ℝ) ≤ 448)), zero_mul]
  | coe r =>
    induction y using EReal.rec with
    | bot => simp at h2
    | top => simp at h1
    | coe s =>
      have h1' : s ≤ r := by exact_mod_cast h1
      have h2' : -s ≤ r := by exact_mod_cast h2
      rcases eq_or_ne r 0 with hr | hr
      · have hs : s = 0 := by linarith
        subst hr; subst hs
        simp
      · have hp : 0 < r := lt_of_le_of_ne (by linarith) (Ne.symm hr)
        have hq : r * (1 / 448) ≠ 0 := mul_ne_zero hr (by norm_num)
        rw [Ideal.div_coe hr, ← EReal.coe_mul, ← EReal.coe_mul, ← EReal.coe_mul, Ideal.div_coe hq, ← EReal.coe_mul,
          ← EReal.coe_mul]
        have e : s * (1 / (r * (1 / 448))) = s / r * 448 := by field_simp
        have l1 : s / r ≤ 1 := (div_le_one hp).2 h1'
        have l2 : -1 ≤ s / r := by rw [le_div_iff₀ hp]; linarith
        rw [e, max_eq_right (by exact_mod_cast (by linarith : (-448 : ℝ) ≤ s / r * 448)),
          min_eq_right (by exact_mod_cast (by linarith : s / r * 448 ≤ (448 : ℝ))), ← EReal.coe_mul]
        congr 1
        field_simp

/-! ## The maxima -/

/-- A maximum over all axes is the least bound of what it is over. -/
theorem reduce_le {s : Shape} {axes : List (Fin s.rank)} (src : FVec Ideal s .f32) (h : s.Reduces axes ⟨1, ![1]⟩)
    (hφ : FKind.Formats .f32) (hacc : (0xFF800000#32 : BitVec 32) = FKind.maximumf.neutral .f32 hφ)
    (j : (⟨1, ![1]⟩ : Shape).Idx) (b : EReal) :
    multiReduction .maximumf axes ⟨1, ![1]⟩ src 0xFF800000#32 h hφ hacc j ≤ b ↔ ∀ i, src i ≤ b := by
  rw [multiReduction_maximumf_eq_fold]
  have hj : ∀ i : s.Idx, h.drop i = j := fun i => funext fun a => Fin.ext (by
    match a with
    | ⟨0, _⟩ =>
      have ha : (h.drop i (0 : Fin 1)).val < 1 := (h.drop i (0 : Fin 1)).isLt
      have hb : (j (0 : Fin 1)).val < 1 := (j (0 : Fin 1)).isLt
      show (h.drop i (0 : Fin 1)).val = (j (0 : Fin 1)).val
      omega)
  show (Finset.univ.filter fun i => h.drop i = j).fold max (Ideal.ofBits .f32 0xFF800000#32) src ≤ b ↔ _
  rw [Finset.fold_max_le, bits_ninf]
  exact ⟨fun H i => H.2 i (Finset.mem_filter.2 ⟨Finset.mem_univ _, hj i⟩), fun H => ⟨bot_le, fun i _ => H i⟩⟩

/-- A bound of every element of a vector bounds every element of its reshape, and back. -/
theorem cast_le {s t : Shape} (x : s.Idx → EReal) (h : s.ShapeCasts t) (b : EReal) :
    (∀ i, shapeCast t x h i ≤ b) ↔ ∀ i, x i ≤ b :=
  ⟨fun H i => by
    have := H ((Shape.reshapeEquiv h).symm i)
    unfold shapeCast at this
    rwa [Equiv.apply_symm_apply] at this, fun H i => H _⟩

/-- An element picked from a reshape is the operand's at the matched index. -/
theorem pick_eq {α : Type} {s t : Shape} (pos : Fin t.rank → Nat) (x : s.Idx → α) (h : s.ShapeCasts t)
    (hp : ∀ a, pos a < t.size a) :
    extractAt pos (shapeCast t x h) hp = x (Shape.reshapeEquiv h fun a => ⟨pos a, hp a⟩) := rfl

/-- A reshape of one value spread over a shape is that value everywhere. -/
theorem spread_eq {s t : Shape} (g : Ideal .f32) (h : s.ShapeCasts t) (i : t.Idx) :
    shapeCast t (broadcast s g) h i = g := rfl

set_option maxRecDepth 65536 in
/-- One device's maximum, at each place of its broadcast, is the least bound of its rows' magnitudes. -/
theorem amax_le (Y : FVec Ideal Cert.KernelIdeal.S128x2048 .f32) (i : Cert.KernelIdeal.S8x128.Idx) (b : EReal) :
    Cert.KernelIdeal.Gen.k0_pay13 (F := Ideal) Y i ≤ b ↔ ∀ r, max (Y r) (-(Y r)) ≤ b := by
  unfold Cert.KernelIdeal.Gen.k0_pay13
  refine (iff_of_eq (congrArg (· ≤ b) (spread_eq _ _ i))).trans ?_
  refine (iff_of_eq (congrArg (· ≤ b) (pick_eq _ _ _ _))).trans ?_
  refine (reduce_le _ _ (.inl rfl) rfl _ b).trans ?_
  exact cast_le (absf (F := Ideal) (φ := .f32) Y) _ b

set_option maxRecDepth 65536 in
/-- What the kernel writes from the gathered maxima: the quantiser at their least bound. -/
theorem kernel_out (A : FVec Ideal Cert.KernelIdeal.S32x8x128 .f32) (Y : FVec Ideal Cert.KernelIdeal.S128x2048 .f32) :
    ∃ g : EReal, (∀ b, g ≤ b ↔ ∀ i, A i ≤ b) ∧ ∀ i, Cert.KernelIdeal.Gen.k0_pay15 (F := Ideal) A Y i
      = (Y i * Ideal.div ((448 : ℝ) : EReal) g) * Ideal.div g ((448 : ℝ) : EReal) := by
  rw [← bits_448]
  unfold Cert.KernelIdeal.Gen.k0_pay15
  generalize hg : extractAt (α := Ideal .f32) _ _ _ = g
  refine ⟨g, fun b => ?_, fun i => rfl⟩
  rw [← hg]
  refine (iff_of_eq (congrArg (· ≤ b) (pick_eq _ _ _ _))).trans ?_
  refine (reduce_le _ _ (.inl rfl) rfl _ b).trans ?_
  exact cast_le A _ b

/-- The reference's product. -/
def refY (a : Vec Ideal Cert.ReferenceIdeal.S4096x4096 .f32) (w : Vec Ideal Cert.ReferenceIdeal.S4096x2048 .f32) :
    FVec Ideal Cert.ReferenceIdeal.S4096x2048 .f32 :=
  fun i => ∑ k : Fin 4096, a (ix2 (n0 := 4096) (n1 := 4096) (i 0) k) * w (ix2 (n0 := 4096) (n1 := 2048) k (i 1))

/-- One entry of a product of whole matrices from a zero accumulator. -/
theorem dot_entry {M K N : ℕ} {φ₁ φ₂ : FTy} (prec : Option ContractPrecision) (lhs : FVec Ideal ⟨2, ![M, K]⟩ φ₁)
    (rhs : FVec Ideal ⟨2, ![K, N]⟩ φ₂) (i : (⟨2, ![M, N]⟩ : Shape).Idx) :
    matmul (F := Ideal) (DotDims.plain M K N) prec lhs rhs (constant (⟨2, ![M, N]⟩ : Shape) .f32 0x00000000#32) i
      = ∑ k : Fin K, lhs (ix2 (i 0) k) * rhs (ix2 k (i 1)) := by
  rw [eq_ix2 i]
  refine (Ideal.matmul_plain_apply prec lhs rhs _ (i 0) (i 1)).trans ?_
  rw [show constant (F := Ideal) (⟨2, ![M, N]⟩ : Shape) .f32 0x00000000#32 (ix2 (i 0) (i 1)) = 0 from Ideal.ofBits_zero_f32, zero_add]
  rfl

set_option maxRecDepth 65536 in
/-- What the reference writes: its product's entries through the quantiser, at the least bound of their magnitudes. -/
theorem ref_out (a : Vec Ideal Cert.ReferenceIdeal.S4096x4096 .f32) (w : Vec Ideal Cert.ReferenceIdeal.S4096x2048 .f32) :
    ∃ g : EReal, (∀ b, g ≤ b ↔ ∀ i, max (refY a w i) (-(refY a w i)) ≤ b) ∧
      ∀ i, Cert.ReferenceIdeal.Gen.k0_pay1 (F := Ideal) a w i
        = min ((448 : ℝ) : EReal) (max ((-448 : ℝ) : EReal) (Ideal.div (refY a w i) (Ideal.div g ((448 : ℝ) : EReal))))
          * Ideal.div g ((448 : ℝ) : EReal) := by
  have hY : refY a w = matmul (F := Ideal) Cert.ReferenceIdeal.dot_S4096x4096_S4096x2048_S4096x2048_1_0_0_1_n_n none
      (truncf (F := Ideal) .bf16 a Cert.ReferenceIdeal.Facts₀.bitsLt_bf16_f32) (truncf (F := Ideal) .bf16 w Cert.ReferenceIdeal.Facts₀.bitsLt_bf16_f32)
      (constant (F := Ideal) Cert.ReferenceIdeal.S4096x2048 .f32 0x00000000#32) := by
    funext i
    exact (dot_entry none (truncf (F := Ideal) .bf16 a Cert.ReferenceIdeal.Facts₀.bitsLt_bf16_f32) (truncf (F := Ideal) .bf16 w Cert.ReferenceIdeal.Facts₀.bitsLt_bf16_f32) i).symm
  rw [hY, ← bits_448, ← bits_neg448]
  unfold Cert.ReferenceIdeal.Gen.k0_pay1
  generalize hg : extractAt (α := Ideal .f32) _ _ _ = g
  refine ⟨g, fun b => ?_, fun i => rfl⟩
  rw [← hg]
  refine (iff_of_eq (congrArg (· ≤ b) (pick_eq _ _ _ _))).trans ?_
  refine (reduce_le _ _ (.inl rfl) rfl _ b).trans ?_
  exact cast_le (absf (F := Ideal) (φ := .f32) _) _ b

/-- One entry of a device's product. -/
theorem dev_out (X : FVec Ideal Cert.KernelIdeal.S128x4096 .bf16) (W : FVec Ideal Cert.KernelIdeal.S4096x2048 .bf16)
    (i : Cert.KernelIdeal.S128x2048.Idx) :
    Cert.KernelIdeal.Gen.k0_pay11 (F := Ideal) X W i
      = ∑ k : Fin 4096, X (ix2 (n0 := 128) (n1 := 4096) (i 0) k) * W (ix2 (n0 := 4096) (n1 := 2048) k (i 1)) :=
  dot_entry none X W i

end Cert.KProof

end
-- ==== Proof.Value.lean ====
/-
  The value claim. The result's array on each device ends as the contents the run leaves there; over the extended reals
  those contents are the device's rows of what the reference computes from the whole arrays: the gathered columns are
  the device's rows of the whole left operand, so its product is the whole product's rows; the gathered maxima have the
  whole's maximum as their least bound; and the two quantisers agree.
-/
module

public import proofs.«01_k».proof.Defs
public import proofs.«01_k».proof.Proof.Algebra
public import proofs.«01_k».proof.Proof.Launch
public import proofs.«01_k».proof.Proof.Gen.ReferenceIdeal.Value

@[expose] public section

noncomputable section

namespace Cert.KProof

open Idealize.ShloMosaic Idealize.ShloMosaic.ValueIdx Idealize.SL.Sem
open Idealize.ShloMosaic.TcCoe
open Cert.KernelIdeal Cert.KernelIdeal.Gen
open scoped BigOperators

/-! ## The windows are whole arrays -/

section Windows

variable {F : FTy → Type} [FloatOps F]
variable (m : (ℓ : Loc nD τ sig) → Buf (Elt F) ℓ) (ρ : Dev nD → PrngReg)

/-- The left operand's window starts at the array's first place. -/
theorem xwin_zero : ∀ t : Fin cfg0.N, win0_0.index t (0 : Fin 2) = 0 ∧ win0_0.index t (1 : Fin 2) = 0 :=
  (by decide +kernel : ∀ t : Fin grid0.N, _)

/-- So does the result's. -/
theorem owin_zero : ∀ t : Fin cfg0.N, win0_1.index t (0 : Fin 2) = 0 ∧ win0_1.index t (1 : Fin 2) = 0 :=
  (by decide +kernel : ∀ t : Fin grid0.N, _)

/-- A place of the left operand's window is the same place of its array. -/
theorem xwin_emb (t : Fin cfg0.N) (j : S4096x128.Idx) : ((cfg0.win 0).blk t).view.emb j = j := by
  obtain ⟨e0, e1⟩ := xwin_zero t
  funext a; apply Fin.ext
  match a with
  | ⟨0, _⟩ => show win0_0.index t (0 : Fin 2) * 4096 + 1 * (j 0).val = (j 0).val; omega
  | ⟨1, _⟩ => show win0_0.index t (1 : Fin 2) * 128 + 1 * (j 1).val = (j 1).val; omega

/-- A place of the result's window is the same place of its array. -/
theorem owin_emb (t : Fin cfg0.N) (j : S128x2048.Idx) : ((cfg0.win 1).blk t).view.emb j = j := by
  obtain ⟨e0, e1⟩ := owin_zero t
  funext a; apply Fin.ext
  match a with
  | ⟨0, _⟩ => show win0_1.index t (0 : Fin 2) * 128 + 1 * (j 0).val = (j 0).val; omega
  | ⟨1, _⟩ => show win0_1.index t (1 : Fin 2) * 2048 + 1 * (j 1).val = (j 1).val; omega

/-- The staged left operand is the array. -/
theorem xstg_eq (c : Dev nD) : xstg m c = m ((c : Thread nD τ).loc main_arg0) := by
  funext j
  exact congrArg (m ((c : Thread nD τ).loc main_arg0)) (xwin_emb (0 : Fin 1) j)

/-- The result's array after the run is what the body left in the staging buffer. -/
theorem finalA_o (c : Dev nD) : finalA m ρ c (1 : Fin 2) = OUT m c := by
  refine (dats m ρ 0 c).arrAt_eq_of_cover 1 (OUT m c) (fun t _ => ?_) (fun i => ?_)
  · funext j
    show OUT m c j = OUT m c (((cfg0.win 1).blk t).view.emb j)
    rw [owin_emb]
  · refine ⟨(0 : Fin 1), by decide, ?_⟩
    have h := ((cfg0.win 1).blk (0 : Fin 1)).view.emb_mem_set i
    exact Eq.mp (congrArg (· ∈ ((cfg0.win 1).blk (0 : Fin 1)).view.set) (owin_emb (0 : Fin 1) i)) h

end Windows

/-! ## The contents, over the extended reals -/

section Contents

variable (m : (ℓ : Loc nD τ sig) → Buf (Elt Ideal) ℓ)
variable (a : Vec Ideal Cert.ReferenceIdeal.S4096x4096 .f32) (w : Vec Ideal Cert.ReferenceIdeal.S4096x2048 .f32)

/-- The gathered columns are the device's rows of the whole left operand. -/
theorem xg_whole (hx : ∀ c : Dev nD, m ((c : Thread nD τ).loc main_arg0)
      = Layout.block ⟨2, ![4096, 128]⟩ ⟨2, ![4096, 4096]⟩ 1 32 c a)
    (c : Dev nD) (r : Fin 128) (k : Fin 4096) (hr : 128 * c.val + r.val < 4096) :
    XG m c (ix2 (n0 := 128) (n1 := 4096) r k) = a (ix2 (n0 := 4096) (n1 := 4096) ⟨128 * c.val + r.val, hr⟩ k) := by
  unfold XG XB k0_pay1
  show xstg m _ (Shape.reshapeEquiv _ (Shape.reshapeEquiv _ _)) = _
  rw [Shape.reshapeEquiv_self, Shape.reshapeEquiv_self, xstg_eq, hx, Layout.block_apply]
  refine congrArg a (funext fun b => Fin.ext ?_)
  match b with
  | ⟨0, _⟩ => rfl
  | ⟨1, _⟩ =>
    show k.val / 128 * 128 + k.val % 128 = k.val
    omega

/-- A device's product is its rows of the whole product. -/
theorem y_whole (hx : ∀ c : Dev nD, m ((c : Thread nD τ).loc main_arg0)
      = Layout.block ⟨2, ![4096, 128]⟩ ⟨2, ![4096, 4096]⟩ 1 32 c a)
    (hw : ∀ c : Dev nD, m ((c : Thread nD τ).loc main_arg1) = w)
    (hT : Layout.Tiles ⟨2, ![128, 2048]⟩ ⟨2, ![4096, 2048]⟩ 0 32)
    (c : Dev nD) (i : S128x2048.Idx) : k0_pay11 (XG m c) (WB m c) i = refY a w (hT.idx c i) := by
  rw [dev_out]
  unfold refY
  refine Finset.sum_congr rfl fun k _ => ?_
  have h0 : (i 0).val < 128 := (i 0).isLt
  have h1 : c.val < 32 := c.isLt
  have hr : 128 * c.val + (i 0).val < 4096 := by omega
  have e0 : hT.idx c i 0 = (⟨128 * c.val + (i 0).val, hr⟩ : Fin 4096) := Fin.ext (by
    rw [(Layout.idx_rows_val hT c i).1]; show c.val * 128 + (i 0).val = 128 * c.val + (i 0).val; omega)
  have e1 : hT.idx c i 1 = i 1 := Fin.ext (Layout.idx_rows_val hT c i).2
  have ew : WB m c = w := hw c
  exact congrArg₂ (fun x y : EReal => x * y)
    ((xg_whole m a hx c (i 0) k hr).trans (congrArg (fun z => a (ix2 (n0 := 4096) (n1 := 4096) z k)) e0.symm))
    ((congrFun ew _).trans (congrArg (fun z => w (ix2 (n0 := 4096) (n1 := 2048) k z)) e1.symm))

/-- Every row of the whole is some device's. -/
theorem row_of (hT : Layout.Tiles ⟨2, ![128, 2048]⟩ ⟨2, ![4096, 2048]⟩ 0 32) (x : Cert.ReferenceIdeal.S4096x2048.Idx) :
    ∃ (c : Dev nD) (i : S128x2048.Idx), hT.idx c i = x := by
  have h0 : (x 0).val < 4096 := (x 0).isLt
  refine ⟨⟨(x 0).val / 128, by show _ < 32; omega⟩,
    ix2 (n0 := 128) (n1 := 2048) ⟨(x 0).val % 128, Nat.mod_lt _ (by decide)⟩ (x 1), funext fun b => Fin.ext ?_⟩
  match b with
  | ⟨0, _⟩ =>
    show (x 0).val / 128 * 128 + (x 0).val % 128 = (x 0).val
    omega
  | ⟨1, _⟩ => rfl

set_option maxRecDepth 65536 in
/-- Each device's result is its rows of the reference's. -/
theorem out_whole (hx : ∀ c : Dev nD, m ((c : Thread nD τ).loc main_arg0)
      = Layout.block ⟨2, ![4096, 128]⟩ ⟨2, ![4096, 4096]⟩ 1 32 c a)
    (hw : ∀ c : Dev nD, m ((c : Thread nD τ).loc main_arg1) = w)
    (hT : Layout.Tiles ⟨2, ![128, 2048]⟩ ⟨2, ![4096, 2048]⟩ 0 32)
    (c : Dev nD) (i : S128x2048.Idx) :
    OUT m c i = Cert.ReferenceIdeal.Gen.k0_pay1 (F := Ideal) a w (hT.idx c i) := by
  obtain ⟨g, hg, hk⟩ := kernel_out (AG m) (YY m c)
  obtain ⟨g', hg', hr⟩ := ref_out a w
  have hY : ∀ d j, k0_pay11 (XG m d) (WB m d) j = refY a w (hT.idx d j) := y_whole m a w hx hw hT
  have hA : ∀ x b, AG m x ≤ b ↔ ∀ r, max (k0_pay11 (XG m (x 0)) (WB m (x 0)) r) (-(k0_pay11 (XG m (x 0)) (WB m (x 0)) r)) ≤ b :=
    fun x b => amax_le (k0_pay11 (XG m (x 0)) (WB m (x 0))) (ix2 (n0 := 8) (n1 := 128) (x 1) (x 2)) b
  have hgg : g = g' := eq_of_forall_ge_iff fun b => by
    rw [hg, hg']
    constructor
    · intro H x
      obtain ⟨d, j, rfl⟩ := row_of hT x
      have h := (hA _ b).1 (H (ix3 (n0 := 32) (n1 := 8) (n2 := 128) d 0 0)) j
      exact (congrArg (fun y : EReal => max y (-y)) (hY d j)) ▸ h
    · intro H x
      refine (hA x b).2 fun j => ?_
      exact (congrArg (fun y : EReal => max y (-y)) (hY (x 0) j)).le.trans (H _)
  have hb := (hg' g').1 le_rfl (hT.idx c i)
  have e : YY m c i = refY a w (hT.idx c i) := by
    rw [← hY c i]
    unfold YY k0_pay12
    show k0_pay11 _ _ (Shape.reshapeEquiv _ i) = _
    rw [Shape.reshapeEquiv_self]
  unfold OUT
  rw [hk i, hr, e, hgg]
  exact quant_eq _ _ (le_trans (le_max_left _ _) hb) (le_trans (le_max_right _ _) hb)

end Contents

/-- Over the extended reals, from the same arguments, each device's result is its rows of the reference's result. -/
theorem value_claim : Cert.algebraic_KernelIdeal_ReferenceIdeal := by
  intro m ρ m' ρ' _ hagree
  refine ⟨Cert.ReferenceIdeal.Gen.k0_pay1 (F := Ideal)
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono
      (fun _ h c => ⟨((h.1 c).1 (1 : Fin 2)).trans ((finalA_o m ρ c).trans ?_),
        ((h.1 c).1 (0 : Fin 2)).trans (finalA_x m ρ c), (h.1 c).2⟩) (run_main (F := Ideal) m ρ)
    exact funext fun i => out_whole m _ _ (fun d => (hagree d).1) (fun d => (hagree d).2) _ c i
  · exact (θ_run Cert.ReferenceIdeal.defs _ _).mono (fun _ h => h 0) (Cert.ReferenceIdeal.Value.run (F := Ideal) m' ρ')

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The certificate's claims, together. -/
theorem claim : Cert.Claim := ⟨Cert.Kernel.Gen.facts, Cert.KernelIdeal.Gen.facts, Cert.ReferenceIdeal.Gen.facts,
  Cert.KProof.frame_k, Cert.KProof.frame_ki, Cert.KProof.frame_ri, trivial, Cert.KProof.value_claim⟩

end Cert.Proof

end
